-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvIdeal_exponents_normal [hPre_exponents_normal : Cert.Pre_exponents_normal.Facts] (m : (ℓ : Loc Cert.DwQkvIdeal.nD Cert.DwQkvIdeal.τ Cert.DwQkvIdeal.sig) → Buf (Elt Ideal) ℓ) : Prop :=
  ∀ c : Dev Cert.DwQkvIdeal.nD,
    (Cert.Pre_exponents_normal.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3))).1 = (fun _ => 1#1)
    ∧ (Cert.Pre_exponents_normal.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3))).2.1 = (fun _ => 1#1)
    ∧ (Cert.Pre_exponents_normal.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3))).2.2.1 = (fun _ => 1#1)
    ∧ (Cert.Pre_exponents_normal.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3))).2.2.2 = (fun _ => 1#1)

def Pre_DwQkvRefIdeal (m : (ℓ : Loc Cert.DwQkvRefIdeal.nD Cert.DwQkvRefIdeal.τ Cert.DwQkvRefIdeal.sig) → Buf (Elt Ideal) ℓ) : Prop :=
  True

def Pre_DwQkvRefIdeal_exponents_normal [hPre_exponents_normal : Cert.Pre_exponents_normal.Facts] (m : (ℓ : Loc Cert.DwQkvRefIdeal.nD Cert.DwQkvRefIdeal.τ Cert.DwQkvRefIdeal.sig) → Buf (Elt Ideal) ℓ) : Prop :=
  ∀ c : Dev Cert.DwQkvRefIdeal.nD,
    (Cert.Pre_exponents_normal.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3))).1 = (fun _ => 1#1)
    ∧ (Cert.Pre_exponents_normal.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3))).2.1 = (fun _ => 1#1)
    ∧ (Cert.Pre_exponents_normal.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3))).2.2.1 = (fun _ => 1#1)
    ∧ (Cert.Pre_exponents_normal.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3))).2.2.2 = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutIdeal_ymax_is_the_maximum [hPre_ymax_is_the_maximum : Cert.Pre_ymax_is_the_maximum.Facts] (m : (ℓ : Loc Cert.DwOutIdeal.nD Cert.DwOutIdeal.τ Cert.DwOutIdeal.sig) → Buf (Elt Ideal) ℓ) : Prop :=
  ∀ c : Dev Cert.DwOutIdeal.nD,
    (Cert.Pre_ymax_is_the_maximum.fn (F := Ideal) (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3))).1 = (fun _ => 1#1)
    ∧ (Cert.Pre_ymax_is_the_maximum.fn (F := Ideal) (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3))).2.1 = (fun _ => 1#1)
    ∧ (Cert.Pre_ymax_is_the_maximum.fn (F := Ideal) (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3))).2.2.1 = (fun _ => 1#1)
    ∧ (Cert.Pre_ymax_is_the_maximum.fn (F := Ideal) (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3))).2.2.2 = (fun _ => 1#1)

def Pre_DwOutRefIdeal (m : (ℓ : Loc Cert.DwOutRefIdeal.nD Cert.DwOutRefIdeal.τ Cert.DwOutRefIdeal.sig) → Buf (Elt Ideal) ℓ) : Prop :=
  True

def Pre_DwOutRefIdeal_ymax_is_the_maximum [hPre_ymax_is_the_maximum : Cert.Pre_ymax_is_the_maximum.Facts] (m : (ℓ : Loc Cert.DwOutRefIdeal.nD Cert.DwOutRefIdeal.τ Cert.DwOutRefIdeal.sig) → Buf (Elt Ideal) ℓ) : Prop :=
  ∀ c : Dev Cert.DwOutRefIdeal.nD,
    (Cert.Pre_ymax_is_the_maximum.fn (F := Ideal) (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1)) (m ((c.tc : Thread Cert.DwOutRefIdeal.nD Cert.DwOutRefIdeal.τ).loc Cert.DwOutRefIdeal.main_arg2)) (m ((c.tc : Thread Cert.DwOutRefIdeal.nD Cert.DwOutRefIdeal.τ).loc Cert.DwOutRefIdeal.main_arg3))).1 = (fun _ => 1#1)
    ∧ (Cert.Pre_ymax_is_the_maximum.fn (F := Ideal) (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1)) (m ((c.tc : Thread Cert.DwOutRefIdeal.nD Cert.DwOutRefIdeal.τ).loc Cert.DwOutRefIdeal.main_arg2)) (m ((c.tc : Thread Cert.DwOutRefIdeal.nD Cert.DwOutRefIdeal.τ).loc Cert.DwOutRefIdeal.main_arg3))).2.1 = (fun _ => 1#1)
    ∧ (Cert.Pre_ymax_is_the_maximum.fn (F := Ideal) (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1)) (m ((c.tc : Thread Cert.DwOutRefIdeal.nD Cert.DwOutRefIdeal.τ).loc Cert.DwOutRefIdeal.main_arg2)) (m ((c.tc : Thread Cert.DwOutRefIdeal.nD Cert.DwOutRefIdeal.τ).loc Cert.DwOutRefIdeal.main_arg3))).2.2.1 = (fun _ => 1#1)
    ∧ (Cert.Pre_ymax_is_the_maximum.fn (F := Ideal) (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1)) (m ((c.tc : Thread Cert.DwOutRefIdeal.nD Cert.DwOutRefIdeal.τ).loc Cert.DwOutRefIdeal.main_arg2)) (m ((c.tc : Thread Cert.DwOutRefIdeal.nD Cert.DwOutRefIdeal.τ).loc Cert.DwOutRefIdeal.main_arg3))).2.2.2 = (fun _ => 1#1)

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynIdeal_maxima_normal [hPre_maxima_normal : Cert.Pre_maxima_normal.Facts] (m : (ℓ : Loc Cert.DynIdeal.nD Cert.DynIdeal.τ Cert.DynIdeal.sig) → Buf (Elt Ideal) ℓ) : Prop :=
  ∀ c : Dev Cert.DynIdeal.nD,
    (Cert.Pre_maxima_normal.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))).1 = (fun _ => 1#1)
    ∧ (Cert.Pre_maxima_normal.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))).2.1 = (fun _ => 1#1)
    ∧ (Cert.Pre_maxima_normal.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))).2.2 = (fun _ => 1#1)

def Pre_DynRefIdeal (m : (ℓ : Loc Cert.DynRefIdeal.nD Cert.DynRefIdeal.τ Cert.DynRefIdeal.sig) → Buf (Elt Ideal) ℓ) : Prop :=
  True

def Pre_DynRefIdeal_maxima_normal [hPre_maxima_normal : Cert.Pre_maxima_normal.Facts] (m : (ℓ : Loc Cert.DynRefIdeal.nD Cert.DynRefIdeal.τ Cert.DynRefIdeal.sig) → Buf (Elt Ideal) ℓ) : Prop :=
  ∀ c : Dev Cert.DynRefIdeal.nD,
    (Cert.Pre_maxima_normal.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))).1 = (fun _ => 1#1)
    ∧ (Cert.Pre_maxima_normal.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))).2.1 = (fun _ => 1#1)
    ∧ (Cert.Pre_maxima_normal.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))).2.2 = (fun _ => 1#1)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_DwQkvIdeal_pre_exponents_normal [hDwQkvIdeal : Cert.DwQkvIdeal.Facts] [hPre_exponents_normal : Cert.Pre_exponents_normal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal_exponents_normal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3))
      ∧ r.2.sem = fun _ => 0)

def quiescent_DwQkvRefIdeal_pre_exponents_normal [hDwQkvRefIdeal : Cert.DwQkvRefIdeal.Facts] [hPre_exponents_normal : Cert.Pre_exponents_normal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal_exponents_normal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutIdeal_pre_ymax_is_the_maximum [hDwOutIdeal : Cert.DwOutIdeal.Facts] [hPre_ymax_is_the_maximum : Cert.Pre_ymax_is_the_maximum.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal_ymax_is_the_maximum m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_DwOutRefIdeal_pre_ymax_is_the_maximum [hDwOutRefIdeal : Cert.DwOutRefIdeal.Facts] [hPre_ymax_is_the_maximum : Cert.Pre_ymax_is_the_maximum.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal_ymax_is_the_maximum m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1)
      ∧ r.2.mem ((c.tc : Thread Cert.Dyn.nD Cert.Dyn.τ).loc Cert.Dyn.main_arg2) = m ((c.tc : Thread Cert.Dyn.nD Cert.Dyn.τ).loc Cert.Dyn.main_arg2))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynIdeal_pre_maxima_normal [hDynIdeal : Cert.DynIdeal.Facts] [hPre_maxima_normal : Cert.Pre_maxima_normal.Facts] : Prop :=
  ∀ (m : (ℓ : Loc Cert.DynIdeal.nD Cert.DynIdeal.τ Cert.DynIdeal.sig) → Buf (Elt Ideal) ℓ) (g : Dev Cert.DynIdeal.nD → PrngReg), Pre_DynIdeal_maxima_normal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynRefIdeal [hDynRefIdeal : Cert.DynRefIdeal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_DynRefIdeal_pre_maxima_normal [hDynRefIdeal : Cert.DynRefIdeal.Facts] [hPre_maxima_normal : Cert.Pre_maxima_normal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal_maxima_normal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v2) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_DwQkv_DwQkvIdeal : Prop :=
  True

def algebraic_DwQkvIdeal_DwQkvRefIdeal_pre_exponents_normal [hDwQkvIdeal : Cert.DwQkvIdeal.Facts] [hDwQkvRefIdeal : Cert.DwQkvRefIdeal.Facts] [hPre_exponents_normal : Cert.Pre_exponents_normal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal_exponents_normal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)) →
    ∃ (v0 : (c : Dev Cert.DwQkvIdeal.nD) → Buf (Elt Ideal) ((c.tc : Thread Cert.DwQkvIdeal.nD Cert.DwQkvIdeal.τ).loc Cert.DwQkvIdeal.main_v4)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v4) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v4) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3))

def preserves_DwOut_DwOutIdeal : Prop :=
  True

def algebraic_DwOutIdeal_DwOutRefIdeal_pre_ymax_is_the_maximum [hDwOutIdeal : Cert.DwOutIdeal.Facts] [hDwOutRefIdeal : Cert.DwOutRefIdeal.Facts] [hPre_ymax_is_the_maximum : Cert.Pre_ymax_is_the_maximum.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal_ymax_is_the_maximum m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v2_0)) (v1 : (c : Dev Cert.DwOutIdeal.nD) → Buf (Elt Ideal) ((c.tc : Thread Cert.DwOutIdeal.nD Cert.DwOutIdeal.τ).loc Cert.DwOutIdeal.main_v2_1)) (v2 : (c : Dev Cert.DwOutIdeal.nD) → Buf (Elt Ideal) ((c.tc : Thread Cert.DwOutIdeal.nD Cert.DwOutIdeal.τ).loc Cert.DwOutIdeal.main_v2_2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2_0) = v0 c
          ∧ r.2.mem ((c.tc : Thread Cert.DwOutIdeal.nD Cert.DwOutIdeal.τ).loc Cert.DwOutIdeal.main_v2_1) = v1 c
          ∧ r.2.mem ((c.tc : Thread Cert.DwOutIdeal.nD Cert.DwOutIdeal.τ).loc Cert.DwOutIdeal.main_v2_2) = v2 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v10_0) = v0 c
          ∧ r.2.mem ((c.tc : Thread Cert.DwOutRefIdeal.nD Cert.DwOutRefIdeal.τ).loc Cert.DwOutRefIdeal.main_v7) = v1 c
          ∧ r.2.mem ((c.tc : Thread Cert.DwOutRefIdeal.nD Cert.DwOutRefIdeal.τ).loc Cert.DwOutRefIdeal.main_v10_1) = v2 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_Dyn_DynIdeal : Prop :=
  True

def algebraic_DynIdeal_DynRefIdeal_pre_maxima_normal [hDynIdeal : Cert.DynIdeal.Facts] [hDynRefIdeal : Cert.DynRefIdeal.Facts] [hPre_maxima_normal : Cert.Pre_maxima_normal.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynRefIdeal.nD Cert.DynRefIdeal.τ Cert.DynRefIdeal.sig) → Buf (Elt Ideal) ℓ) (g' : Dev Cert.DynRefIdeal.nD → PrngReg), Pre_DynIdeal_maxima_normal m →
    (∀ c : Dev Cert.DynIdeal.nD,
      m' ((c.tc : Thread Cert.DynRefIdeal.nD Cert.DynRefIdeal.τ).loc Cert.DynRefIdeal.main_arg0) = m ((c.tc : Thread Cert.DynIdeal.nD Cert.DynIdeal.τ).loc Cert.DynIdeal.main_arg0)
      ∧ m' ((c.tc : Thread Cert.DynRefIdeal.nD Cert.DynRefIdeal.τ).loc Cert.DynRefIdeal.main_arg1) = m ((c.tc : Thread Cert.DynIdeal.nD Cert.DynIdeal.τ).loc Cert.DynIdeal.main_arg1)
      ∧ m' ((c.tc : Thread Cert.DynRefIdeal.nD Cert.DynRefIdeal.τ).loc Cert.DynRefIdeal.main_arg2) = m ((c.tc : Thread Cert.DynIdeal.nD Cert.DynIdeal.τ).loc Cert.DynIdeal.main_arg2)) →
    ∃ (v0 : (c : Dev Cert.DynIdeal.nD) → Buf (Elt Ideal) ((c.tc : Thread Cert.DynIdeal.nD Cert.DynIdeal.τ).loc Cert.DynIdeal.main_v2_0)) (v1 : (c : Dev Cert.DynIdeal.nD) → Buf (Elt Ideal) ((c.tc : Thread Cert.DynIdeal.nD Cert.DynIdeal.τ).loc Cert.DynIdeal.main_v2_1)) (v2 : (c : Dev Cert.DynIdeal.nD) → Buf (Elt Ideal) ((c.tc : Thread Cert.DynIdeal.nD Cert.DynIdeal.τ).loc Cert.DynIdeal.main_v2_2)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v2_0) = v0 c
          ∧ r.2.mem ((c.tc : Thread Cert.DynIdeal.nD Cert.DynIdeal.τ).loc Cert.DynIdeal.main_v2_1) = v1 c
          ∧ r.2.mem ((c.tc : Thread Cert.DynIdeal.nD Cert.DynIdeal.τ).loc Cert.DynIdeal.main_v2_2) = v2 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
          ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ θ_run (Cert.DynRefIdeal.defs (F := Ideal)) (onTc (τ := Cert.DynRefIdeal.τ) (Cert.DynRefIdeal.main (F := Ideal))) ⟨m', fun _ => 0, g'⟩ (fun r => ∀ c : Dev Cert.DynRefIdeal.nD,
          r.2.mem ((c.tc : Thread Cert.DynRefIdeal.nD Cert.DynRefIdeal.τ).loc Cert.DynRefIdeal.main_v2_0) = v0 c
          ∧ r.2.mem ((c.tc : Thread Cert.DynRefIdeal.nD Cert.DynRefIdeal.τ).loc Cert.DynRefIdeal.main_v2_1) = v1 c
          ∧ r.2.mem ((c.tc : Thread Cert.DynRefIdeal.nD Cert.DynRefIdeal.τ).loc Cert.DynRefIdeal.main_v2_2) = v2 c
          ∧ r.2.mem ((c.tc : Thread Cert.DynRefIdeal.nD Cert.DynRefIdeal.τ).loc Cert.DynRefIdeal.main_arg0) = m' ((c.tc : Thread Cert.DynRefIdeal.nD Cert.DynRefIdeal.τ).loc Cert.DynRefIdeal.main_arg0)
          ∧ r.2.mem ((c.tc : Thread Cert.DynRefIdeal.nD Cert.DynRefIdeal.τ).loc Cert.DynRefIdeal.main_arg1) = m' ((c.tc : Thread Cert.DynRefIdeal.nD Cert.DynRefIdeal.τ).loc Cert.DynRefIdeal.main_arg1)
          ∧ r.2.mem ((c.tc : Thread Cert.DynRefIdeal.nD Cert.DynRefIdeal.τ).loc Cert.DynRefIdeal.main_arg2) = m' ((c.tc : Thread Cert.DynRefIdeal.nD Cert.DynRefIdeal.τ).loc Cert.DynRefIdeal.main_arg2))

def Claim : Prop :=
  ∃ (hDx : Cert.Dx.Facts) (hDxIdeal : Cert.DxIdeal.Facts) (hDxRefIdeal : Cert.DxRefIdeal.Facts) (hDwQkv : Cert.DwQkv.Facts) (hDwQkvIdeal : Cert.DwQkvIdeal.Facts) (hDwQkvRefIdeal : Cert.DwQkvRefIdeal.Facts) (hDwOut : Cert.DwOut.Facts) (hDwOutIdeal : Cert.DwOutIdeal.Facts) (hDwOutRefIdeal : Cert.DwOutRefIdeal.Facts) (hDyn : Cert.Dyn.Facts) (hDynIdeal : Cert.DynIdeal.Facts) (hDynRefIdeal : Cert.DynRefIdeal.Facts) (hPre_exponents_normal : Cert.Pre_exponents_normal.Facts) (hPre_ymax_is_the_maximum : Cert.Pre_ymax_is_the_maximum.Facts) (hPre_maxima_normal : Cert.Pre_maxima_normal.Facts),
    quiescent_Dx (hDx := hDx)
    ∧ quiescent_DxIdeal (hDxIdeal := hDxIdeal)
    ∧ quiescent_DxRefIdeal (hDxRefIdeal := hDxRefIdeal)
    ∧ quiescent_DwQkv (hDwQkv := hDwQkv)
    ∧ quiescent_DwQkvIdeal (hDwQkvIdeal := hDwQkvIdeal)
    ∧ quiescent_DwQkvIdeal_pre_exponents_normal (hDwQkvIdeal := hDwQkvIdeal) (hPre_exponents_normal := hPre_exponents_normal)
    ∧ quiescent_DwQkvRefIdeal (hDwQkvRefIdeal := hDwQkvRefIdeal)
    ∧ quiescent_DwQkvRefIdeal_pre_exponents_normal (hDwQkvRefIdeal := hDwQkvRefIdeal) (hPre_exponents_normal := hPre_exponents_normal)
    ∧ quiescent_DwOut (hDwOut := hDwOut)
    ∧ quiescent_DwOutIdeal (hDwOutIdeal := hDwOutIdeal)
    ∧ quiescent_DwOutIdeal_pre_ymax_is_the_maximum (hDwOutIdeal := hDwOutIdeal) (hPre_ymax_is_the_maximum := hPre_ymax_is_the_maximum)
    ∧ quiescent_DwOutRefIdeal (hDwOutRefIdeal := hDwOutRefIdeal)
    ∧ quiescent_DwOutRefIdeal_pre_ymax_is_the_maximum (hDwOutRefIdeal := hDwOutRefIdeal) (hPre_ymax_is_the_maximum := hPre_ymax_is_the_maximum)
    ∧ quiescent_Dyn (hDyn := hDyn)
    ∧ quiescent_DynIdeal (hDynIdeal := hDynIdeal)
    ∧ quiescent_DynIdeal_pre_maxima_normal (hDynIdeal := hDynIdeal) (hPre_maxima_normal := hPre_maxima_normal)
    ∧ quiescent_DynRefIdeal (hDynRefIdeal := hDynRefIdeal)
    ∧ quiescent_DynRefIdeal_pre_maxima_normal (hDynRefIdeal := hDynRefIdeal) (hPre_maxima_normal := hPre_maxima_normal)
    ∧ preserves_Dx_DxIdeal
    ∧ algebraic_DxIdeal_DxRefIdeal (hDxIdeal := hDxIdeal) (hDxRefIdeal := hDxRefIdeal)
    ∧ preserves_DwQkv_DwQkvIdeal
    ∧ algebraic_DwQkvIdeal_DwQkvRefIdeal_pre_exponents_normal (hDwQkvIdeal := hDwQkvIdeal) (hDwQkvRefIdeal := hDwQkvRefIdeal) (hPre_exponents_normal := hPre_exponents_normal)
    ∧ preserves_DwOut_DwOutIdeal
    ∧ algebraic_DwOutIdeal_DwOutRefIdeal_pre_ymax_is_the_maximum (hDwOutIdeal := hDwOutIdeal) (hDwOutRefIdeal := hDwOutRefIdeal) (hPre_ymax_is_the_maximum := hPre_ymax_is_the_maximum)
    ∧ preserves_Dyn_DynIdeal
    ∧ algebraic_DynIdeal_DynRefIdeal_pre_maxima_normal (hDynIdeal := hDynIdeal) (hDynRefIdeal := hDynRefIdeal) (hPre_maxima_normal := hPre_maxima_normal)
-- ==== Pre_exponents_normal.lean ====
abbrev S8x2048x2560 : Shape := ⟨3, ![8, 2048, 2560]⟩
abbrev S8x2048 : Shape := ⟨2, ![8, 2048]⟩
abbrev S8x2048x7680 : Shape := ⟨3, ![8, 2048, 7680]⟩
abbrev S8x64x7680 : Shape := ⟨3, ![8, 64, 7680]⟩
abbrev S_ : Shape := ⟨0, ![]⟩

class Facts : Prop where
  bcast_S_S8x2048x2560 : S_.BroadcastsInDim S8x2048x2560 (![] : Fin 0 → Fin S8x2048x2560.rank)
  bcast_S_S8x2048 : S_.BroadcastsInDim S8x2048 (![] : Fin 0 → Fin S8x2048.rank)
  bcast_S_S8x2048x7680 : S_.BroadcastsInDim S8x2048x7680 (![] : Fin 0 → Fin S8x2048x7680.rank)
  bcast_S_S8x64x7680 : S_.BroadcastsInDim S8x64x7680 (![] : Fin 0 → Fin S8x64x7680.rank)

variable [Facts]

def fn {F : FTy → Type} [FloatOps F] (main_arg0 : FVec F S8x2048x2560 .fp8e4m3) (main_arg1 : FVec F S8x2048 .f32) (main_arg2 : FVec F S8x2048x7680 .fp8e5m2) (main_arg3 : IVec S8x64x7680 8) : IVec S8x2048x2560 1 × IVec S8x2048 1 × IVec S8x2048x7680 1 × IVec S8x64x7680 1 :=
  let main_c : IVec S_ 1 := constantI S_ 1 1#1
  let main_v0 : IVec S8x2048x2560 1 := broadcastInDim S8x2048x2560 ![] bcast_S_S8x2048x2560 main_c
  let main_c_0 : IVec S_ 1 := constantI S_ 1 1#1
  let main_v1 : IVec S8x2048 1 := broadcastInDim S8x2048 ![] bcast_S_S8x2048 main_c_0
  let main_c_1 : IVec S_ 1 := constantI S_ 1 1#1
  let main_v2 : IVec S8x2048x7680 1 := broadcastInDim S8x2048x7680 ![] bcast_S_S8x2048x7680 main_c_1
  let main_c_2 : IVec S_ 8 := constantI S_ 8 1#8
  let main_v3 : IVec S8x64x7680 8 := broadcastInDim S8x64x7680 ![] bcast_S_S8x64x7680 main_c_2
  let main_v4 : IVec S8x64x7680 1 := cmpi .uge main_arg3 main_v3
  let main_c_3 : IVec S_ 8 := constantI S_ 8 254#8
  let main_v5 : IVec S8x64x7680 8 := broadcastInDim S8x64x7680 ![] bcast_S_S8x64x7680 main_c_3
  let main_v6 : IVec S8x64x7680 1 := cmpi .ule main_arg3 main_v5
  let main_v7 : IVec S8x64x7680 1 := andi main_v4 main_v6
  (main_v0, main_v1, main_v2, main_v7)
-- ==== Pre_maxima_normal.lean ====
abbrev S8x2048x2560 : Shape := ⟨3, ![8, 2048, 2560]⟩
abbrev S3840x2560 : Shape := ⟨2, ![3840, 2560]⟩
abbrev S_ : Shape := ⟨0, ![]⟩
abbrev S8x2048 : Shape := ⟨2, ![8, 2048]⟩
abbrev S8x2048x1 : Shape := ⟨3, ![8, 2048, 1]⟩

class Facts : Prop where
  bitsLt_bf16_f32 : FTy.bits .bf16 < FTy.bits .f32
  reducesTo_S8x2048x2560_S8x2048_d2 : S8x2048x2560.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2560_0_1_2 : S8x2048x1.BroadcastsInDim S8x2048x2560 (![0, 1, 2] : Fin 3 → Fin S8x2048x2560.rank)
  bcast_S_S3840x2560 : S_.BroadcastsInDim S3840x2560 (![] : Fin 0 → Fin S3840x2560.rank)

variable [Facts]

def fn {F : FTy → Type} [FloatOps F] (main_arg0 : FVec F S8x2048x2560 .bf16) (main_arg1 : FVec F S3840x2560 .fp8e4m3) (main_arg2 : FVec F S_ .f32) : IVec S8x2048x2560 1 × IVec S3840x2560 1 × IVec S_ 1 :=
  let main_v0 : FVec F S8x2048x2560 .f32 := (extf .f32 · bitsLt_bf16_f32) main_arg0
  let main_v1 : FVec F S8x2048x2560 .f32 := Host.absf main_v0
  let main_cst : FVec F S_ .f32 := constant S_ .f32 0xFF800000#32
  let main_v2 : FVec F S8x2048 .f32 := (fun x v => Host.reduce FloatOps.maximumf x v reducesTo_S8x2048x2560_S8x2048_d2 h_S_) main_v1 main_cst
  let main_v3 : FVec F S8x2048x1 .f32 := broadcastInDim S8x2048x1 ![0, 1] bcast_S8x2048_S8x2048x1_0_1 main_v2
  let main_cst_0 : FVec F S_ .f32 := constant S_ .f32 0x37924925#32
  let main_v4 : FVec F S8x2048x1 .f32 := broadcastInDim S8x2048x1 ![] bcast_S_S8x2048x1 main_cst_0
  let main_v5 : FVec F S8x2048x1 .f32 := mulf main_v3 main_v4
  let main_cst_1 : FVec F S_ .f32 := constant S_ .f32 0x00000000#32
  let main_v6 : FVec F S8x2048x1 .f32 := broadcastInDim S8x2048x1 ![] bcast_S_S8x2048x1 main_cst_1
  let main_v7 : IVec S8x2048x1 1 := cmpf .oeq main_v3 main_v6
  let main_cst_2 : FVec F S_ .f32 := constant S_ .f32 0x00800000#32
  let main_v8 : FVec F S8x2048x1 .f32 := broadcastInDim S8x2048x1 ![] bcast_S_S8x2048x1 main_cst_2
  let main_v9 : IVec S8x2048x1 1 := cmpf .oge main_v5 main_v8
  let main_v10 : IVec S8x2048x1 1 := ori main_v7 main_v9
  let main_cst_3 : FVec F S_ .f32 := constant S_ .f32 0x7F7F0000#32
  let main_v11 : FVec F S8x2048x1 .f32 := broadcastInDim S8x2048x1 ![] bcast_S_S8x2048x1 main_cst_3
  let main_v12 : IVec S8x2048x1 1 := cmpf .ole main_v3 main_v11
  let main_v13 : IVec S8x2048x1 1 := andi main_v10 main_v12
  let main_v14 : IVec S8x2048x2560 1 := broadcastInDim S8x2048x2560 ![0, 1, 2] bcast_S8x2048x1_S8x2048x2560_0_1_2 main_v13
  let main_c : IVec S_ 1 := constantI S_ 1 1#1
  let main_v15 : IVec S3840x2560 1 := broadcastInDim S3840x2560 ![] bcast_S_S3840x2560 main_c
  let main_c_4 : IVec S_ 1 := constantI S_ 1 1#1
  (main_v14, main_v15, main_c_4)
-- ==== Pre_ymax_is_the_maximum.lean ====
abbrev S8x2048x3840 : Shape := ⟨3, ![8, 2048, 3840]⟩
abbrev S5x1x768 : Shape := ⟨3, ![5, 1, 768]⟩
abbrev S16384x2560 : Shape := ⟨2, ![16384, 2560]⟩
abbrev S16384x1 : Shape := ⟨2, ![16384, 1]⟩
abbrev S_ : Shape := ⟨0, ![]⟩
abbrev S3840 : Shape := ⟨1, ![3840]⟩

class Facts : Prop where
  bcast_S_S8x2048x3840 : S_.BroadcastsInDim S8x2048x3840 (![] : Fin 0 → Fin S8x2048x3840.rank)
  reducesTo_S8x2048x3840_S3840_d0_1 : S8x2048x3840.ReducesTo [0, 1] S3840
  h_S_ : 0 < S_.numel
  shapeCasts_S3840_S5x1x768 : S3840.ShapeCasts S5x1x768
  bcast_S_S16384x2560 : S_.BroadcastsInDim S16384x2560 (![] : Fin 0 → Fin S16384x2560.rank)
  bcast_S_S16384x1 : S_.BroadcastsInDim S16384x1 (![] : Fin 0 → Fin S16384x1.rank)

variable [Facts]

def fn {F : FTy → Type} [FloatOps F] (main_arg0 : FVec F S8x2048x3840 .f32) (main_arg1 : FVec F S5x1x768 .f32) (main_arg2 : FVec F S16384x2560 .fp8e5m2) (main_arg3 : FVec F S16384x1 .f32) : IVec S8x2048x3840 1 × IVec S5x1x768 1 × IVec S16384x2560 1 × IVec S16384x1 1 :=
  let main_c : IVec S_ 1 := constantI S_ 1 1#1
  let main_v0 : IVec S8x2048x3840 1 := broadcastInDim S8x2048x3840 ![] bcast_S_S8x2048x3840 main_c
  let main_v1 : FVec F S8x2048x3840 .f32 := Host.absf main_arg0
  let main_cst : FVec F S_ .f32 := constant S_ .f32 0xFF800000#32
  let main_v2 : FVec F S3840 .f32 := (fun x v => Host.reduce FloatOps.maximumf x v reducesTo_S8x2048x3840_S3840_d0_1 h_S_) main_v1 main_cst
  let main_v3 : FVec F S5x1x768 .f32 := shapeCast S5x1x768 main_v2 shapeCasts_S3840_S5x1x768
  let main_v4 : IVec S5x1x768 1 := cmpf .oeq main_arg1 main_v3
  let main_c_0 : IVec S_ 1 := constantI S_ 1 1#1
  let main_v5 : IVec S16384x2560 1 := broadcastInDim S16384x2560 ![] bcast_S_S16384x2560 main_c_0
  let main_c_1 : IVec S_ 1 := constantI S_ 1 1#1
  let main_v6 : IVec S16384x1 1 := broadcastInDim S16384x1 ![] bcast_S_S16384x1 main_c_1
  (main_v0, main_v4, main_v5, main_v6)
-- ==== Dx.lean ====
abbrev S8x2048x7680 : Shape := ⟨3, ![8, 2048, 7680]⟩
abbrev S2560x7680 : Shape := ⟨2, ![2560, 7680]⟩
abbrev S_ : Shape := ⟨0, ![]⟩
abbrev S16384x7680 : Shape := ⟨2, ![16384, 7680]⟩
abbrev S1x1 : Shape := ⟨2, ![1, 1]⟩
abbrev S16384x2560 : Shape := ⟨2, ![16384, 2560]⟩
abbrev S1024x7680 : Shape := ⟨2, ![1024, 7680]⟩
abbrev S512x7680 : Shape := ⟨2, ![512, 7680]⟩
abbrev S1024x512 : Shape := ⟨2, ![1024, 512]⟩

abbrev nBuf : Space → Nat
  | .hbm => 6
  | .vmem => 6
  | .smem => 1
  | _ => 0

abbrev bufTy : (tb : Table) → Fin (tcTables nBuf tb) → BufTy
  | .hbm, ⟨0, _⟩ => ⟨S8x2048x7680, .bf16⟩
  | .hbm, ⟨1, _⟩ => ⟨S2560x7680, .fp8e4m3⟩
  | .hbm, ⟨2, _⟩ => ⟨S_, .f32⟩
  | .hbm, ⟨3, _⟩ => ⟨S16384x7680, .bf16⟩
  | .hbm, ⟨4, _⟩ => ⟨S1x1, .f32⟩
  | .hbm, ⟨5, _⟩ => ⟨S16384x2560, .bf16⟩
  | .local _ .vmem, ⟨0, _⟩ => ⟨S1024x7680, .bf16⟩
  | .local _ .vmem, ⟨1, _⟩ => ⟨S1024x7680, .bf16⟩
  | .local _ .vmem, ⟨2, _⟩ => ⟨S512x7680, .fp8e4m3⟩
  | .local _ .vmem, ⟨3, _⟩ => ⟨S512x7680, .fp8e4m3⟩
  | .local _ .vmem, ⟨4, _⟩ => ⟨S1024x512, .bf16⟩
  | .local _ .vmem, ⟨5, _⟩ => ⟨S1024x512, .bf16⟩
  | .local _ .smem, ⟨0, _⟩ => ⟨S1x1, .f32⟩
  | _, _ => ⟨S8x2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x7680 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxRefIdeal.lean ====
abbrev S8x2048x7680 : Shape := ⟨3, ![8, 2048, 7680]⟩
abbrev S2560x7680 : Shape := ⟨2, ![2560, 7680]⟩
abbrev S_ : Shape := ⟨0, ![]⟩
abbrev S16384x7680 : Shape := ⟨2, ![16384, 7680]⟩
abbrev S1x1 : Shape := ⟨2, ![1, 1]⟩
abbrev S16384x2560 : Shape := ⟨2, ![16384, 2560]⟩

abbrev nBuf : Space → Nat
  | .hbm => 6
  | .vmem => 3
  | .smem => 1
  | _ => 0

abbrev bufTy : (tb : Table) → Fin (tcTables nBuf tb) → BufTy
  | .hbm, ⟨0, _⟩ => ⟨S8x2048x7680, .bf16⟩
  | .hbm, ⟨1, _⟩ => ⟨S2560x7680, .fp8e4m3⟩
  | .hbm, ⟨2, _⟩ => ⟨S_, .f32⟩
  | .hbm, ⟨3, _⟩ => ⟨S16384x7680, .bf16⟩
  | .hbm, ⟨4, _⟩ => ⟨S1x1, .f32⟩
  | .hbm, ⟨5, _⟩ => ⟨S16384x2560, .bf16⟩
  | .local _ .vmem, ⟨0, _⟩ => ⟨S16384x7680, .bf16⟩
  | .local _ .vmem, ⟨1, _⟩ => ⟨S2560x7680, .fp8e4m3⟩
  | .local _ .vmem, ⟨2, _⟩ => ⟨S16384x2560, .bf16⟩
  | .local _ .smem, ⟨0, _⟩ => ⟨S1x1, .f32⟩
  | _, _ => ⟨S8x2048x7680, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x7680 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DwQkv.lean ====
abbrev S8x2048x2560 : Shape := ⟨3, ![8, 2048, 2560]⟩
abbrev S8x2048 : Shape := ⟨2, ![8, 2048]⟩
abbrev S8x2048x7680 : Shape := ⟨3, ![8, 2048, 7680]⟩
abbrev S8x64x7680 : Shape := ⟨3, ![8, 64, 7680]⟩
abbrev S16384x2560 : Shape := ⟨2, ![16384, 2560]⟩
abbrev S16384x1 : Shape := ⟨2, ![16384, 1]⟩
abbrev S16384x7680 : Shape := ⟨2, ![16384, 7680]⟩
abbrev S512x7680 : Shape := ⟨2, ![512, 7680]⟩
abbrev S2560x7680 : Shape := ⟨2, ![2560, 7680]⟩
abbrev S1024x2560 : Shape := ⟨2, ![1024, 2560]⟩
abbrev S1024x1 : Shape := ⟨2, ![1024, 1]⟩
abbrev S1024x1536 : Shape := ⟨2, ![1024, 1536]⟩
abbrev S32x1536 : Shape := ⟨2, ![32, 1536]⟩
abbrev S2560x1536 : Shape := ⟨2, ![2560, 1536]⟩
abbrev S1x1536 : Shape := ⟨2, ![1, 1536]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x2560, .fp8e4m3⟩
  | .hbm, ⟨1, _⟩ => ⟨S8x2048, .f32⟩
  | .hbm, ⟨2, _⟩ => ⟨S8x2048x7680, .fp8e5m2⟩
  | .hbm, ⟨3, _⟩ => ⟨S8x64x7680, .i8⟩
  | .hbm, ⟨4, _⟩ => ⟨S16384x2560, .fp8e4m3⟩
  | .hbm, ⟨5, _⟩ => ⟨S16384x1, .f32⟩
  | .hbm, ⟨6, _⟩ => ⟨S16384x7680, .fp8e5m2⟩
  | .hbm, ⟨7, _⟩ => ⟨S512x7680, .i8⟩
  | .hbm, ⟨8, _⟩ => ⟨S2560x7680, .f32⟩
  | .local _ .vmem, ⟨0, _⟩ => ⟨S1024x2560, .fp8e4m3⟩
  | .local _ .vmem, ⟨1, _⟩ => ⟨S1024x2560, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1536, .fp8e5m2⟩
  | .local _ .vmem, ⟨5, _⟩ => ⟨S1024x1536, .fp8e5m2⟩
  | .local _ .vmem, ⟨6, _⟩ => ⟨S32x1536, .i8⟩
  | .local _ .vmem, ⟨7, _⟩ => ⟨S32x1536, .i8⟩
  | .local _ .vmem, ⟨8, _⟩ => ⟨S2560x1536, .f32⟩
  | .local _ .vmem, ⟨9, _⟩ => ⟨S2560x1536, .f32⟩
  | _, _ => ⟨S8x2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2560x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwQkvRefIdeal.lean ====
abbrev S8x2048x2560 : Shape := ⟨3, ![8, 2048, 2560]⟩
abbrev S8x2048 : Shape := ⟨2, ![8, 2048]⟩
abbrev S8x2048x7680 : Shape := ⟨3, ![8, 2048, 7680]⟩
abbrev S8x64x7680 : Shape := ⟨3, ![8, 64, 7680]⟩
abbrev S16384x2560 : Shape := ⟨2, ![16384, 2560]⟩
abbrev S16384x1 : Shape := ⟨2, ![16384, 1]⟩
abbrev S16384x7680 : Shape := ⟨2, ![16384, 7680]⟩
abbrev S512x7680 : Shape := ⟨2, ![512, 7680]⟩
abbrev S2560x7680 : Shape := ⟨2, ![2560, 7680]⟩
abbrev S512x32x7680 : Shape := ⟨3, ![512, 32, 7680]⟩
abbrev S512x1x7680 : Shape := ⟨3, ![512, 1, 7680]⟩

abbrev nBuf : Space → Nat
  | .hbm => 9
  | .vmem => 5
  | .smem => 0
  | _ => 0

abbrev bufTy : (tb : Table) → Fin (tcTables nBuf tb) → BufTy
  | .hbm, ⟨0, _⟩ => ⟨S8x2048x2560, .fp8e4m3⟩
  | .hbm, ⟨1, _⟩ => ⟨S8x2048, .f32⟩
  | .hbm, ⟨2, _⟩ => ⟨S8x2048x7680, .fp8e5m2⟩
  | .hbm, ⟨3, _⟩ => ⟨S8x64x7680, .i8⟩
  | .hbm, ⟨4, _⟩ => ⟨S16384x2560, .fp8e4m3⟩
  | .hbm, ⟨5, _⟩ => ⟨S16384x1, .f32⟩
  | .hbm, ⟨6, _⟩ => ⟨S16384x7680, .fp8e5m2⟩
  | .hbm, ⟨7, _⟩ => ⟨S512x7680, .i8⟩
  | .hbm, ⟨8, _⟩ => ⟨S2560x7680, .f32⟩
  | .local _ .vmem, ⟨0, _⟩ => ⟨S16384x2560, .fp8e4m3⟩
  | .local _ .vmem, ⟨1, _⟩ => ⟨S16384x1, .f32⟩
  | .local _ .vmem, ⟨2, _⟩ => ⟨S16384x7680, .fp8e5m2⟩
  | .local _ .vmem, ⟨3, _⟩ => ⟨S512x7680, .i8⟩
  | .local _ .vmem, ⟨4, _⟩ => ⟨S2560x7680, .f32⟩
  | _, _ => ⟨S8x2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7680 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x7680 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwOut.lean ====
abbrev S8x2048x3840 : Shape := ⟨3, ![8, 2048, 3840]⟩
abbrev S5x1x768 : Shape := ⟨3, ![5, 1, 768]⟩
abbrev S16384x2560 : Shape := ⟨2, ![16384, 2560]⟩
abbrev S16384x1 : Shape := ⟨2, ![16384, 1]⟩
abbrev S16384x3840 : Shape := ⟨2, ![16384, 3840]⟩
abbrev S1x3840 : Shape := ⟨2, ![1, 3840]⟩
abbrev S3840x2560 : Shape := ⟨2, ![3840, 2560]⟩
abbrev S2048x640 : Shape := ⟨2, ![2048, 640]⟩
abbrev S1x640 : Shape := ⟨2, ![1, 640]⟩
abbrev S2048x2560 : Shape := ⟨2, ![2048, 2560]⟩
abbrev S2048x1 : Shape := ⟨2, ![2048, 1]⟩
abbrev S640x2560 : Shape := ⟨2, ![640, 2560]⟩
abbrev S640x2048 : Shape := ⟨2, ![640, 2048]⟩
abbrev S640x128 : Shape := ⟨2, ![640, 128]⟩
abbrev S640x1 : Shape := ⟨2, ![640, 1]⟩
abbrev S128x640 : Shape := ⟨2, ![128, 640]⟩

abbrev nBuf : Space → Nat
  | .hbm => 9
  | .vmem => 17
  | .smem => 0
  | _ => 0

abbrev bufTy : (tb : Table) → Fin (tcTables nBuf tb) → BufTy
  | .hbm, ⟨0, _⟩ => ⟨S8x2048x3840, .f32⟩
  | .hbm, ⟨1, _⟩ => ⟨S5x1x768, .f32⟩
  | .hbm, ⟨2, _⟩ => ⟨S16384x2560, .fp8e5m2⟩
  | .hbm, ⟨3, _⟩ => ⟨S16384x1, .f32⟩
  | .hbm, ⟨4, _⟩ => ⟨S16384x3840, .f32⟩
  | .hbm, ⟨5, _⟩ => ⟨S1x3840, .f32⟩
  | .hbm, ⟨6, _⟩ => ⟨S16384x3840, .fp8e4m3⟩
  | .hbm, ⟨7, _⟩ => ⟨S1x3840, .f32⟩
  | .hbm, ⟨8, _⟩ => ⟨S3840x2560, .f32⟩
  | .local _ .vmem, ⟨0, _⟩ => ⟨S2048x640, .f32⟩
  | .local _ .vmem, ⟨1, _⟩ => ⟨S2048x640, .f32⟩
  | .local _ .vmem, ⟨2, _⟩ => ⟨S1x640, .f32⟩
  | .local _ .vmem, ⟨3, _⟩ => ⟨S1x640, .f32⟩
  | .local _ .vmem, ⟨4, _⟩ => ⟨S2048x2560, .fp8e5m2⟩
  | .local _ .vmem, ⟨5, _⟩ => ⟨S2048x2560, .fp8e5m2⟩
  | .local _ .vmem, ⟨6, _⟩ => ⟨S2048x1, .f32⟩
  | .local _ .vmem, ⟨7, _⟩ => ⟨S2048x1, .f32⟩
  | .local _ .vmem, ⟨8, _⟩ => ⟨S2048x640, .fp8e4m3⟩
  | .local _ .vmem, ⟨9, _⟩ => ⟨S2048x640, .fp8e4m3⟩
  | .local _ .vmem, ⟨10, _⟩ => ⟨S1x640, .f32⟩
  | .local _ .vmem, ⟨11, _⟩ => ⟨S1x640, .f32⟩
  | .local _ .vmem, ⟨12, _⟩ => ⟨S640x2560, .f32⟩
  | .local _ .vmem, ⟨13, _⟩ => ⟨S640x2560, .f32⟩
  | .local _ .vmem, ⟨14, _⟩ => ⟨S640x2048, .bf16⟩
  | .local _ .vmem, ⟨15, _⟩ => ⟨S640x2048, .bf16⟩
  | .local _ .vmem, ⟨16, _⟩ => ⟨S640x128, .f32⟩
  | _, _ => ⟨S8x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c1_i32_9 : BitVec 32 := 1#32
  let v18 : BitVec 32 := Scalar.andi arg0 c1_i32_9
  let c0_i32_10 : BitVec 32 := 0#32
  let v19 : BitVec 1 := Scalar.cmpi .eq v18 c0_i32_10
  let v20 : BitVec 32 := Scalar.extui v19
  let c0_i32_11 : BitVec 32 := 0#32
  let v21 : BitVec 1 := Scalar.cmpi .ne v20 c0_i32_11
  v21

def k0_cond4 (i : grid0.Coords) : BitVec 1 :=
  let arg0 : BitVec 32 := BitVec.ofNat 32 (i 0).val
  let c1_i32_12 : BitVec 32 := 1#32
  let v22 : BitVec 32 := Scalar.andi arg0 c1_i32_12
  let c1_i32_13 : BitVec 32 := 1#32
  let v23 : BitVec 1 := Scalar.cmpi .eq v22 c1_i32_13
  let v24 : BitVec 32 := Scalar.extui v23
  let c0_i32_14 : BitVec 32 := 0#32
  let v25 : BitVec 1 := Scalar.cmpi .ne v24 c0_i32_14
  v25

def k0_cond2 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c0_i32_7 : BitVec 32 := 0#32
  let v15 : BitVec 1 := Scalar.cmpi .eq v11 c0_i32_7
  let v16 : BitVec 32 := Scalar.extui v15
  let c0_i32_8 : BitVec 32 := 0#32
  let v17 : BitVec 1 := Scalar.cmpi .ne v16 c0_i32_8
  v17

def k0_cond5 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c7_i32 : BitVec 32 := 7#32
  let v26 : BitVec 1 := Scalar.cmpi .eq v11 c7_i32
  let c0_i32_15 : BitVec 32 := 0#32
  let v27 : BitVec 1 := Scalar.cmpi .sgt arg0 c0_i32_15
  let v28 : BitVec 1 := Scalar.andi v26 v27
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c3_i32 : BitVec 32 := 3#32
  let v1 : BitVec 32 := Scalar.shrsi v0 c3_i32
  let c7_i32 : BitVec 32 := 7#32
  let v2 : BitVec 32 := Scalar.andi v0 c7_i32
  let c0_i32 : BitVec 32 := 0#32
  ![v2.toNat, v1.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c3_i32 : BitVec 32 := 3#32
  let v1 : BitVec 32 := Scalar.shrsi v0 c3_i32
  let c7_i32 : BitVec 32 := 7#32
  let v2 : BitVec 32 := Scalar.andi v0 c7_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.shrsi v1 c3_i32
  let c7_i32 : BitVec 32 := 7#32
  let v3 : BitVec 32 := Scalar.andi v1 c7_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.shrsi v1 c3_i32
  let c7_i32 : BitVec 32 := 7#32
  let v3 : BitVec 32 := Scalar.andi v1 c7_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c47_i32 : BitVec 32 := 47#32
  let v0 : BitVec 32 := Scalar.minsi arg0 c47_i32
  let c3_i32 : BitVec 32 := 3#32
  let v1 : BitVec 32 := Scalar.shrsi v0 c3_i32
  let c7_i32 : BitVec 32 := 7#32
  let v2 : BitVec 32 := Scalar.andi v0 c7_i32
  let c0_i32 : BitVec 32 := 0#32
  ![v2.toNat, v1.toNat]

def cc0_transform_5 (i : grid0.Coords) : Fin 2 → Nat :=
  let arg0 : BitVec 32 := BitVec.ofNat 32 (i 0).val
  let c47_i32 : BitVec 32 := 47#32
  let v0 : BitVec 32 := Scalar.minsi arg0 c47_i32
  let c3_i32 : BitVec 32 := 3#32
  let v1 : BitVec 32 := Scalar.shrsi v0 c3_i32
  let c7_i32 : BitVec 32 := 7#32
  let v2 : BitVec 32 := Scalar.andi v0 c7_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.shrsi v1 c3_i32
  let c7_i32 : BitVec 32 := 7#32
  let v3 : BitVec 32 := Scalar.andi v1 c7_i32
  let c0_i32_0 : BitVec 32 := 0#32
  let c0_i32_1 : BitVec 32 := 0#32
  ![v2.toNat, c0_i32_0.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2560 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwOutRefIdeal.lean ====
abbrev S8x2048x3840 : Shape := ⟨3, ![8, 2048, 3840]⟩
abbrev S5x1x768 : Shape := ⟨3, ![5, 1, 768]⟩
abbrev S16384x2560 : Shape := ⟨2, ![16384, 2560]⟩
abbrev S16384x1 : Shape := ⟨2, ![16384, 1]⟩
abbrev S_ : Shape := ⟨0, ![]⟩
abbrev S3840 : Shape := ⟨1, ![3840]⟩
abbrev S1x3840 : Shape := ⟨2, ![1, 3840]⟩
abbrev S3840x1 : Shape := ⟨2, ![3840, 1]⟩
abbrev S16384x3840 : Shape := ⟨2, ![16384, 3840]⟩
abbrev S3840x2560 : Shape := ⟨2, ![3840, 2560]⟩

abbrev nBuf : Space → Nat
  | .hbm => 22
  | .vmem => 7
  | .smem => 0
  | _ => 0

abbrev bufTy : (tb : Table) → Fin (tcTables nBuf tb) → BufTy
  | .hbm, ⟨0, _⟩ => ⟨S8x2048x3840, .f32⟩
  | .hbm, ⟨1, _⟩ => ⟨S5x1x768, .f32⟩
  | .hbm, ⟨2, _⟩ => ⟨S16384x2560, .fp8e5m2⟩
  | .hbm, ⟨3, _⟩ => ⟨S16384x1, .f32⟩
  | .hbm, ⟨4, _⟩ => ⟨S8x2048x3840, .f32⟩
  | .hbm, ⟨5, _⟩ => ⟨S_, .f32⟩
  | .hbm, ⟨6, _⟩ => ⟨S3840, .f32⟩
  | .hbm, ⟨7, _⟩ => ⟨S_, .f32⟩
  | .hbm, ⟨8, _⟩ => ⟨S3840, .f32⟩
  | .hbm, ⟨9, _⟩ => ⟨S3840, .i1⟩
  | .hbm, ⟨10, _⟩ => ⟨S_, .f32⟩
  | .hbm, ⟨11, _⟩ => ⟨S3840, .f32⟩
  | .hbm, ⟨12, _⟩ => ⟨S3840, .f32⟩
  | .hbm, ⟨13, _⟩ => ⟨S_, .f32⟩
  | .hbm, ⟨14, _⟩ => ⟨S_, .f32⟩
  | .hbm, ⟨15, _⟩ => ⟨S3840, .f32⟩
  | .hbm, ⟨16, _⟩ => ⟨S3840, .f32⟩
  | .hbm, ⟨17, _⟩ => ⟨S1x3840, .f32⟩
  | .hbm, ⟨18, _⟩ => ⟨S3840x1, .f32⟩
  | .hbm, ⟨19, _⟩ => ⟨S16384x3840, .f32⟩
  | .hbm, ⟨20, _⟩ => ⟨S16384x3840, .fp8e4m3⟩
  | .hbm, ⟨21, _⟩ => ⟨S3840x2560, .f32⟩
  | .local _ .vmem, ⟨0, _⟩ => ⟨S16384x3840, .f32⟩
  | .local _ .vmem, ⟨1, _⟩ => ⟨S1x3840, .f32⟩
  | .local _ .vmem, ⟨2, _⟩ => ⟨S3840x1, .f32⟩
  | .local _ .vmem, ⟨3, _⟩ => ⟨S16384x2560, .fp8e5m2⟩
  | .local _ .vmem, ⟨4, _⟩ => ⟨S16384x1, .f32⟩
  | .local _ .vmem, ⟨5, _⟩ => ⟨S16384x3840, .fp8e4m3⟩
  | .local _ .vmem, ⟨6, _⟩ => ⟨S3840x2560, .f32⟩
  | _, _ => ⟨S8x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2560 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3840 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dyn.lean ====
abbrev S8x2048x2560 : Shape := ⟨3, ![8, 2048, 2560]⟩
abbrev S3840x2560 : Shape := ⟨2, ![3840, 2560]⟩
abbrev S_ : Shape := ⟨0, ![]⟩
abbrev S16384x2560 : Shape := ⟨2, ![16384, 2560]⟩
abbrev S1x1 : Shape := ⟨2, ![1, 1]⟩
abbrev S16384x1 : Shape := ⟨2, ![16384, 1]⟩
abbrev S16384x3840 : Shape := ⟨2, ![16384, 3840]⟩
abbrev S512x2560 : Shape := ⟨2, ![512, 2560]⟩
abbrev S512x1 : Shape := ⟨2, ![512, 1]⟩
abbrev S512x3840 : Shape := ⟨2, ![512, 3840]⟩
abbrev S512 : Shape := ⟨1, ![512]⟩
abbrev S256x2560 : Shape := ⟨2, ![256, 2560]⟩
abbrev S256x3840 : Shape := ⟨2, ![256, 3840]⟩
abbrev S256x1 : Shape := ⟨2, ![256, 1]⟩

abbrev nBuf : Space → Nat
  | .hbm => 8
  | .vmem => 9
  | .smem => 1
  | _ => 0

abbrev bufTy : (tb : Table) → Fin (tcTables nBuf tb) → BufTy
  | .hbm, ⟨0, _⟩ => ⟨S8x2048x2560, .bf16⟩
  | .hbm, ⟨1, _⟩ => ⟨S3840x2560, .fp8e4m3⟩
  | .hbm, ⟨2, _⟩ => ⟨S_, .f32⟩
  | .hbm, ⟨3, _⟩ => ⟨S16384x2560, .bf16⟩
  | .hbm, ⟨4, _⟩ => ⟨S1x1, .f32⟩
  | .hbm, ⟨5, _⟩ => ⟨S16384x2560, .fp8e5m2⟩
  | .hbm, ⟨6, _⟩ => ⟨S16384x1, .f32⟩
  | .hbm, ⟨7, _⟩ => ⟨S16384x3840, .f32⟩
  | .local _ .vmem, ⟨0, _⟩ => ⟨S512x2560, .bf16⟩
  | .local _ .vmem, ⟨1, _⟩ => ⟨S512x2560, .bf16⟩
  | .local _ .vmem, ⟨2, _⟩ => ⟨S3840x2560, .fp8e4m3⟩
  | .local _ .vmem, ⟨3, _⟩ => ⟨S512x2560, .fp8e5m2⟩
  | .local _ .vmem, ⟨4, _⟩ => ⟨S512x2560, .fp8e5m2⟩
  | .local _ .vmem, ⟨5, _⟩ => ⟨S512x1, .f32⟩
  | .local _ .vmem, ⟨6, _⟩ => ⟨S512x1, .f32⟩
  | .local _ .vmem, ⟨7, _⟩ => ⟨S512x3840, .f32⟩
  | .local _ .vmem, ⟨8, _⟩ => ⟨S512x3840, .f32⟩
  | .local _ .smem, ⟨0, _⟩ => ⟨S1x1, .f32⟩
  | _, _ => ⟨S8x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DynRefIdeal.lean ====
abbrev S8x2048x2560 : Shape := ⟨3, ![8, 2048, 2560]⟩
abbrev S3840x2560 : Shape := ⟨2, ![3840, 2560]⟩
abbrev S_ : Shape := ⟨0, ![]⟩
abbrev S16384x2560 : Shape := ⟨2, ![16384, 2560]⟩
abbrev S1x1 : Shape := ⟨2, ![1, 1]⟩
abbrev S16384x1 : Shape := ⟨2, ![16384, 1]⟩
abbrev S16384x3840 : Shape := ⟨2, ![16384, 3840]⟩
abbrev S16384 : Shape := ⟨1, ![16384]⟩
abbrev S1x253 : Shape := ⟨2, ![1, 253]⟩
abbrev S16384x253 : Shape := ⟨2, ![16384, 253]⟩

abbrev nBuf : Space → Nat
  | .hbm => 8
  | .vmem => 5
  | .smem => 1
  | _ => 0

abbrev bufTy : (tb : Table) → Fin (tcTables nBuf tb) → BufTy
  | .hbm, ⟨0, _⟩ => ⟨S8x2048x2560, .bf16⟩
  | .hbm, ⟨1, _⟩ => ⟨S3840x2560, .fp8e4m3⟩
  | .hbm, ⟨2, _⟩ => ⟨S_, .f32⟩
  | .hbm, ⟨3, _⟩ => ⟨S16384x2560, .bf16⟩
  | .hbm, ⟨4, _⟩ => ⟨S1x1, .f32⟩
  | .hbm, ⟨5, _⟩ => ⟨S16384x2560, .fp8e5m2⟩
  | .hbm, ⟨6, _⟩ => ⟨S16384x1, .f32⟩
  | .hbm, ⟨7, _⟩ => ⟨S16384x3840, .f32⟩
  | .local _ .vmem, ⟨0, _⟩ => ⟨S16384x2560, .bf16⟩
  | .local _ .vmem, ⟨1, _⟩ => ⟨S3840x2560, .fp8e4m3⟩
  | .local _ .vmem, ⟨2, _⟩ => ⟨S16384x2560, .fp8e5m2⟩
  | .local _ .vmem, ⟨3, _⟩ => ⟨S16384x1, .f32⟩
  | .local _ .vmem, ⟨4, _⟩ => ⟨S16384x3840, .f32⟩
  | .local _ .smem, ⟨0, _⟩ => ⟨S1x1, .f32⟩
  | _, _ => ⟨S8x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2560 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Dx.lean ====
/-
  The gradient of the input, `dx`: both programs compute, at row `r` and column `d`,
  `(∑ k, g[r, k] * w[d, k]) * s`, where `g` is the widened gradient as 16384 rows, `w` the weight codes and `s` their scale.
-/
module

public import proofs.«01_k».proof.Proof.Gen.DxIdeal.Value
public import proofs.«01_k».proof.Proof.Gen.DxRefIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DxRefIdeal.Whole

open Cert.DxRefIdeal Cert.DxRefIdeal.Gen

variable (m : (ℓ : Loc nD τ sig) → Buf (Elt Ideal) ℓ)

/-- The gradient of the input of whole arrays: the widened gradient `g` (8 sequences of 2048 rows), the weight codes `w`
    and the weight scale `s`. -/
def dxOf (g : FVec Ideal S8x2048x7680 .bf16) (w : FVec Ideal S2560x7680 .fp8e4m3) (s : FVec Ideal S_ .f32) :
    FVec Ideal S16384x2560 .bf16 :=
  k0_pay1 (shapeCast S16384x7680 g Gen.shapeCasts_S8x2048x7680_S16384x7680) w
    (shapeCast S1x1 s Gen.shapeCasts_S_S1x1 (ix2 0 0))

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- What the body leaves in its result buffer: the payload of the input blocks. -/
theorem out_eq (c : Dev nD) (a0 : Memref sig .tc .vmem S16384x7680 .bf16) (h0 : a0.IsWhole)
    (a1 : Memref sig .tc .vmem S2560x7680 .fp8e4m3) (h1 : a1.IsWhole) (a2 : Memref sig .tc .smem S1x1 .f32) (h2 : a2.IsWhole)
    (a3 : Memref sig .tc .vmem S16384x2560 .bf16) (h3 : a3.IsWhole)
    (x0 : Vec Ideal S16384x7680 .bf16) (x1 : Vec Ideal S2560x7680 .fp8e4m3) (x2 : Vec Ideal S1x1 .f32) :
    out0_A_3 c a0 h0 a1 h1 a2 h2 a3 h3 x0 x1 x2 = k0_pay1 x0 x1 (x2 (ix2 0 0)) := by
  frame_out
  congr 1
  exact congrArg x2 (funext fun a => by fin_cases a <;> exact Subsingleton.elim (α := Fin 1) _ _)

/-- The reference's result array. -/
theorem final (c : Dev nD) : (dats m 0 c).arrAt 3 cfg0.N
    = dxOf (m ((c : Thread nD τ).loc main_arg0)) (m ((c : Thread nD τ).loc main_arg1)) (m ((c : Thread nD τ).loc main_arg2)) := by
  refine (dats m 0 c).arrAt_eq_of_after_last 3 t0_0 (by decide +kernel) _ fun j => ?_
  blk_simp
  rw [after0_3]
  unfold outsAt0
  rw [out_eq]
  have e0 : (iblk m c 0 t0_0 : Vec Ideal S16384x7680 .bf16)
      = shapeCast S16384x7680 (m ((c : Thread nD τ).loc main_arg0)) Gen.shapeCasts_S8x2048x7680_S16384x7680 := by
    blk_ext! [iblk, idx t0_0]
  have e1 : (iblk m c 1 t0_0 : Vec Ideal S2560x7680 .fp8e4m3) = m ((c : Thread nD τ).loc main_arg1) := by
    blk_ext! [iblk, V, idx t0_0]
  have e2 : (iblk m c 2 t0_0 : Vec Ideal S1x1 .f32)
      = shapeCast S1x1 (m ((c : Thread nD τ).loc main_arg2)) Gen.shapeCasts_S_S1x1 := by
    blk_ext! [iblk, idx t0_0]
  unfold dxOf
  rw [← e0, ← e2]
  exact congrArg (fun w => k0_pay1 (iblk m c 0 t0_0) w ((iblk m c 2 t0_0 : Vec Ideal S1x1 .f32) (ix2 0 0)) j) e1

end Cert.DxRefIdeal.Whole

namespace Cert.DxIdeal.Blocks

open Cert.DxIdeal Cert.DxIdeal.Gen
open Cert.DxRefIdeal.Whole (dxOf)

variable (m : (ℓ : Loc nD τ sig) → Buf (Elt Ideal) ℓ)

/-- Which block of each array a grid point holds. -/
theorem idx : ∀ t : Fin cfg0.N, win0_0.index t = ![t.val / 5, 0] ∧ win0_1.index t = ![t.val % 5, 0] ∧ win0_2.index t = ![0, 0]
    ∧ win0_3.index t = ![t.val / 5, t.val % 5] :=
  (by decide +kernel : ∀ t : Fin grid0.N, _)

theorem out_eq (c : Dev nD) (i : grid0.Coords) (a0 : Memref sig .tc .vmem S1024x7680 .bf16) (h0 : a0.IsWhole)
    (a1 : Memref sig .tc .vmem S512x7680 .fp8e4m3) (h1 : a1.IsWhole) (a2 : Memref sig .tc .smem S1x1 .f32) (h2 : a2.IsWhole)
    (a3 : Memref sig .tc .vmem S1024x512 .bf16) (h3 : a3.IsWhole)
    (x0 : Vec Ideal S1024x7680 .bf16) (x1 : Vec Ideal S512x7680 .fp8e4m3) (x2 : Vec Ideal S1x1 .f32) :
    out0_A_3 c i a0 h0 a1 h1 a2 h2 a3 h3 x0 x1 x2 = k0_pay1 x0 x1 (x2 (ix2 0 0)) := by
  frame_out
  congr 1
  exact congrArg x2 (funext fun a => by fin_cases a <;> exact Subsingleton.elim (α := Fin 1) _ _)

/-- What a grid point stores at `y` is the whole product at the place of `y` in the result. -/
theorem point (c : Dev nD) (t : Fin cfg0.N) (y : S1024x512.Idx) (i : S16384x2560.Idx)
    (hi0 : (i 0 : ℕ) = t.val / 5 * 1024 + y 0) (hi1 : (i 1 : ℕ) = t.val % 5 * 512 + y 1) :
    k0_pay1 (iblk m c 0 t) (iblk m c 1 t) ((show Vec Ideal S1x1 .f32 from iblk m c 2 t) (ix2 0 0)) y
      = dxOf (m ((c : Thread nD τ).loc main_arg0)) (m ((c : Thread nD τ).loc main_arg1)) (m ((c : Thread nD τ).loc main_arg2)) i := by
  pointwise [k0_pay1, dxOf, Cert.DxRefIdeal.Gen.k0_pay1]
  blk_point [iblk, V, idx t]

/-- The kernel's result array. -/
theorem final (c : Dev nD) : (dats m 0 c).arrAt 3 cfg0.N
    = dxOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [out_eq]
  exact point m c t y _ (by blk_simp [idx t]) (by blk_simp [idx t])

end Cert.DxIdeal.Blocks

end
-- ==== Proof.DwQkv.lean ====
module

public import proofs.«01_k».proof.Defs
public import proofs.«01_k».proof.Proof.Gen.DwQkvIdeal.Value
public import proofs.«01_k».proof.Proof.Gen.DwQkvRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DwQkvRefIdeal.Whole

open Cert.DwQkvRefIdeal Cert.DwQkvRefIdeal.Gen

variable (m : (ℓ : Loc nD τ sig) → Buf (Elt Ideal) ℓ)

/-- The weight gradient of whole arrays: activation codes `x` and their row scales `s`, gradient codes `d` and the exponent
    codes `e` of their blocks of 32 rows. -/
def dwOf (x : FVec Ideal S8x2048x2560 .fp8e4m3) (s : FVec Ideal S8x2048 .f32) (d : FVec Ideal S8x2048x7680 .fp8e5m2)
    (e : IVec S8x64x7680 8) : FVec Ideal S2560x7680 .f32 :=
  k0_pay1 (shapeCast S512x7680 e Gen.shapeCasts_S8x64x7680_S512x7680) (shapeCast S16384x7680 d Gen.shapeCasts_S8x2048x7680_S16384x7680)
    (shapeCast S16384x2560 x Gen.shapeCasts_S8x2048x2560_S16384x2560) (shapeCast S16384x1 s Gen.shapeCasts_S8x2048_S16384x1)

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

/-- What the body leaves in its result buffer: the payload of the input blocks. -/
theorem out_eq (x0 : Vec Ideal S16384x2560 .fp8e4m3) (x1 : Vec Ideal S16384x1 .f32) (x2 : Vec Ideal S16384x7680 .fp8e5m2)
    (x3 : Vec Ideal S512x7680 .i8) : out0_4 x0 x1 x2 x3 = k0_pay1 x3 x2 x0 x1 := by
  frame_out

/-- The reference's result array. -/
theorem final (c : Dev nD) : (dats m 0 c).arrAt 4 cfg0.N
    = dwOf (m ((c : Thread nD τ).loc main_arg0)) (m ((c : Thread nD τ).loc main_arg1)) (m ((c : Thread nD τ).loc main_arg2))
        (m ((c : Thread nD τ).loc main_arg3)) := by
  refine (dats m 0 c).arrAt_eq_of_after_last 4 t0_0 (by decide +kernel) _ fun j => ?_
  blk_simp
  rw [after0_4, out_eq]
  have e0 : (iblk m c 0 t0_0 : Vec Ideal S16384x2560 .fp8e4m3)
      = shapeCast S16384x2560 (m ((c : Thread nD τ).loc main_arg0)) Gen.shapeCasts_S8x2048x2560_S16384x2560 := by
    blk_ext! [iblk, idx t0_0]
  have e1 : (iblk m c 1 t0_0 : Vec Ideal S16384x1 .f32)
      = shapeCast S16384x1 (m ((c : Thread nD τ).loc main_arg1)) Gen.shapeCasts_S8x2048_S16384x1 := by
    blk_ext! [iblk, idx t0_0]
  have e2 : (iblk m c 2 t0_0 : Vec Ideal S16384x7680 .fp8e5m2)
      = shapeCast S16384x7680 (m ((c : Thread nD τ).loc main_arg2)) Gen.shapeCasts_S8x2048x7680_S16384x7680 := by
    blk_ext! [iblk, idx t0_0]
  have e3 : (iblk m c 3 t0_0 : Vec Ideal S512x7680 .i8)
      = shapeCast S512x7680 (m ((c : Thread nD τ).loc main_arg3)) Gen.shapeCasts_S8x64x7680_S512x7680 := by
    blk_ext! [iblk, idx t0_0]
  unfold dwOf
  rw [← e0, ← e1, ← e2, ← e3]

end Cert.DwQkvRefIdeal.Whole

namespace Cert.DwQkvIdeal.Blocks

open Cert.DwQkvIdeal Cert.DwQkvIdeal.Gen

variable (m : (ℓ : Loc nD τ sig) → Buf (Elt Ideal) ℓ)

/-- The bits of an exponent code are the power of two it stands for. -/
theorem scale_eq (e : BitVec 8) (h1 : 1 ≤ e.toNat) (h2 : e.toNat ≤ 254) :
    Ideal.ofBits .f32 (e.setWidth 32 <<< 23) = Ideal.exp2 ((((e.setWidth 32 - 127#32).toInt : ℝ)) : EReal) := by
  obtain ⟨n, hn⟩ : ∃ n : ℕ, n = e.toNat := ⟨_, rfl⟩
  have ht : (e.setWidth 32 - 127#32).toInt = (n : ℤ) - 127 := by
    rw [BitVec.toInt_sub]
    have : (e.setWidth 32).toInt = (n : ℤ) := by
      rw [BitVec.toInt_eq_toNat_of_lt (by simp; omega)]; simp; omega
    rw [this, show (127#32).toInt = 127 from rfl]
    rw [Int.bmod_eq_of_le] <;> omega
  have hneg : (e.setWidth 32 <<< 23).extractLsb' 31 1 = 0#1 := by
    apply BitVec.eq_of_toNat_eq
    simp [BitVec.extractLsb'_toNat, Nat.shiftLeft_eq, Nat.shiftRight_eq_div_pow]
    omega
  have hex : ((e.setWidth 32 <<< 23).extractLsb' 23 8).toNat = n := by
    simp [BitVec.extractLsb'_toNat, Nat.shiftLeft_eq, Nat.shiftRight_eq_div_pow]
    omega
  have hfr : ((e.setWidth 32 <<< 23).extractLsb' 0 23).toNat = 0 := by
    simp [BitVec.extractLsb'_toNat, Nat.shiftLeft_eq, Nat.shiftRight_eq_div_pow]
  rw [ht]
  have hi : Ideal.ofBits .f32 (e.setWidth 32 <<< 23) = (((1 : ℝ) * (2 ^ 23 + 0 : ℕ) * (2 : ℝ) ^ ((n : ℤ) - (2 ^ (8 - 1) - 1) - 23) : ℝ) : EReal) := by
    have : Ideal.ofBits .f32 (e.setWidth 32 <<< 23) = Ideal.ieee 8 23 (e.setWidth 32 <<< 23) := rfl
    rw [this]
    unfold Ideal.ieee
    simp only [Nat.reduceAdd, hneg, hex, hfr]
    rw [if_neg (by omega), if_neg (by omega)]
    rfl
  rw [hi, Ideal.exp2_coe]
  refine congrArg _ ?_
  show _ = (2 : ℝ) ^ (((n : ℤ) - 127 : ℤ) : ℝ)
  rw [Real.rpow_intCast, one_mul, show (((2 : ℕ) ^ 23 + 0 : ℕ) : ℝ) = (2 : ℝ) ^ (23 : ℤ) by norm_num, ← zpow_add₀ (by norm_num)]
  exact congrArg (fun z : ℤ => (2 : ℝ) ^ z) (by norm_num)

/-- A block's gradient codes, each run of 32 rows multiplied by the scales of its row of the exponent block. -/
def kS (E : Vec Ideal S32x1536 .i8) (C : Vec Ideal S1024x1536 .fp8e5m2) : FVec Ideal S1024x1536 .bf16 :=
  concatenate S1024x1536 0 [
    ⟨S32x1536, k0_pay4 E (View.ld C (Rect.unit ![0, 0] ![32, 1536] inb_S1024x1536_S32x1536_0_0))⟩,
    ⟨S32x1536, k0_pay5 E (View.ld C (Rect.unit ![32, 0] ![32, 1536] inb_S1024x1536_S32x1536_32_0))⟩,
    ⟨S32x1536, k0_pay6 E (View.ld C (Rect.unit ![64, 0] ![32, 1536] inb_S1024x1536_S32x1536_64_0))⟩,
    ⟨S32x1536, k0_pay9 (k0_pay7 (View.ld C (Rect.unit ![96, 0] ![32, 1536] inb_S1024x1536_S32x1536_96_0))) (k0_pay8 E)⟩,
    ⟨S32x1536, k0_pay10 (k0_pay3 E) (View.ld C (Rect.unit ![128, 0] ![32, 1536] inb_S1024x1536_S32x1536_128_0))⟩,
    ⟨S32x1536, k0_pay11 (k0_pay3 E) (View.ld C (Rect.unit ![160, 0] ![32, 1536] inb_S1024x1536_S32x1536_160_0))⟩,
    ⟨S32x1536, k0_pay12 (k0_pay3 E) (View.ld C (Rect.unit ![192, 0] ![32, 1536] inb_S1024x1536_S32x1536_192_0))⟩,
    ⟨S32x1536, k0_pay13 (k0_pay3 E) (View.ld C (Rect.unit ![224, 0] ![32, 1536] inb_S1024x1536_S32x1536_224_0))⟩,
    ⟨S32x1536, k0_pay14 (k0_pay3 E) (View.ld C (Rect.unit ![256, 0] ![32, 1536] inb_S1024x1536_S32x1536_256_0))⟩,
    ⟨S32x1536, k0_pay15 (k0_pay3 E) (View.ld C (Rect.unit ![288, 0] ![32, 1536] inb_S1024x1536_S32x1536_288_0))⟩,
    ⟨S32x1536, k0_pay16 (k0_pay3 E) (View.ld C (Rect.unit ![320, 0] ![32, 1536] inb_S1024x1536_S32x1536_320_0))⟩,
    ⟨S32x1536, k0_pay17 (k0_pay3 E) (View.ld C (Rect.unit ![352, 0] ![32, 1536] inb_S1024x1536_S32x1536_352_0))⟩,
    ⟨S32x1536, k0_pay18 (k0_pay3 E) (View.ld C (Rect.unit ![384, 0] ![32, 1536] inb_S1024x1536_S32x1536_384_0))⟩,
    ⟨S32x1536, k0_pay19 (k0_pay3 E) (View.ld C (Rect.unit ![416, 0] ![32, 1536] inb_S1024x1536_S32x1536_416_0))⟩,
    ⟨S32x1536, k0_pay20 (k0_pay3 E) (View.ld C (Rect.unit ![448, 0] ![32, 1536] inb_S1024x1536_S32x1536_448_0))⟩,
    ⟨S32x1536, k0_pay21 (k0_pay3 E) (View.ld C (Rect.unit ![480, 0] ![32, 1536] inb_S1024x1536_S32x1536_480_0))⟩,
    ⟨S32x1536, k0_pay22 (k0_pay3 E) (View.ld C (Rect.unit ![512, 0] ![32, 1536] inb_S1024x1536_S32x1536_512_0))⟩,
    ⟨S32x1536, k0_pay23 (k0_pay3 E) (View.ld C (Rect.unit ![544, 0] ![32, 1536] inb_S1024x1536_S32x1536_544_0))⟩,
    ⟨S32x1536, k0_pay26 (k0_pay24 (View.ld C (Rect.unit ![576, 0] ![32, 1536] inb_S1024x1536_S32x1536_576_0))) (k0_pay25 (k0_pay3 E))⟩,
    ⟨S32x1536, k0_pay27 (k0_pay3 E) (View.ld C (Rect.unit ![608, 0] ![32, 1536] inb_S1024x1536_S32x1536_608_0))⟩,
    ⟨S32x1536, k0_pay28 (k0_pay3 E) (View.ld C (Rect.unit ![640, 0] ![32, 1536] inb_S1024x1536_S32x1536_640_0))⟩,
    ⟨S32x1536, k0_pay29 (k0_pay3 E) (View.ld C (Rect.unit ![672, 0] ![32, 1536] inb_S1024x1536_S32x1536_672_0))⟩,
    ⟨S32x1536, k0_pay30 (k0_pay3 E) (View.ld C (Rect.unit ![704, 0] ![32, 1536] inb_S1024x1536_S32x1536_704_0))⟩,
    ⟨S32x1536, k0_pay31 (k0_pay3 E) (View.ld C (Rect.unit ![736, 0] ![32, 1536] inb_S1024x1536_S32x1536_736_0))⟩,
    ⟨S32x1536, k0_pay32 (k0_pay3 E) (View.ld C (Rect.unit ![768, 0] ![32, 1536] inb_S1024x1536_S32x1536_768_0))⟩,
    ⟨S32x1536, k0_pay33 (k0_pay3 E) (View.ld C (Rect.unit ![800, 0] ![32, 1536] inb_S1024x1536_S32x1536_800_0))⟩,
    ⟨S32x1536, k0_pay34 (k0_pay3 E) (View.ld C (Rect.unit ![832, 0] ![32, 1536] inb_S1024x1536_S32x1536_832_0))⟩,
    ⟨S32x1536, k0_pay35 (k0_pay3 E) (View.ld C (Rect.unit ![864, 0] ![32, 1536] inb_S1024x1536_S32x1536_864_0))⟩,
    ⟨S32x1536, k0_pay36 (k0_pay3 E) (View.ld C (Rect.unit ![896, 0] ![32, 1536] inb_S1024x1536_S32x1536_896_0))⟩,
    ⟨S32x1536, k0_pay37 (k0_pay3 E) (View.ld C (Rect.unit ![928, 0] ![32, 1536] inb_S1024x1536_S32x1536_928_0))⟩,
    ⟨S32x1536, k0_pay38 (k0_pay3 E) (View.ld C (Rect.unit ![960, 0] ![32, 1536] inb_S1024x1536_S32x1536_960_0))⟩,
    ⟨S32x1536, k0_pay39 (k0_pay3 E) (View.ld C (Rect.unit ![992, 0] ![32, 1536] inb_S1024x1536_S32x1536_992_0))⟩]
    concatenates_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S1024x1536_d0

/-- What an exponent code stands for in the kernel. -/
def scK (e : BitVec 8) : EReal := Ideal.ofBits .f32 (e.setWidth 32 <<< 23)

theorem pay3_at (E : Vec Ideal S32x1536 .i8) (q : Fin 32) (c : Fin 1536) : k0_pay3 (F := Ideal) E (ix2 q c) = scK (E (ix2 q c)) := by
  pointwise [k0_pay3]
  rfl

/-- Piece `n` of the stack. -/
def pc (E : Vec Ideal S32x1536 .i8) (C : Vec Ideal S1024x1536 .fp8e5m2) (n : Fin 32) : FVec Ideal S32x1536 .bf16 := fun i =>
  ((show EReal from C (ix2 (⟨32 * n.val + (i 0).val, by have := (i 0).isLt; dsimp at this; omega⟩ : Fin 1024) (i 1))) * scK (E (ix2 n (i 1))) : EReal)

theorem piece0 (E : Vec Ideal S32x1536 .i8) (C : Vec Ideal S1024x1536 .fp8e5m2) :
    k0_pay4 E (View.ld C (Rect.unit ![0, 0] ![32, 1536] inb_S1024x1536_S32x1536_0_0)) = pc E C 0 := by
  funext i
  pointwise [k0_pay4, pc, pay3_at]

theorem piece1 (E : Vec Ideal S32x1536 .i8) (C : Vec Ideal S1024x1536 .fp8e5m2) :
    k0_pay5 E (View.ld C (Rect.unit ![32, 0] ![32, 1536] inb_S1024x1536_S32x1536_32_0)) = pc E C 1 := by
  funext i
  pointwise [k0_pay5, pc, pay3_at]

theorem piece2 (E : Vec Ideal S32x1536 .i8) (C : Vec Ideal S1024x1536 .fp8e5m2) :
    k0_pay6 E (View.ld C (Rect.unit ![64, 0] ![32, 1536] inb_S1024x1536_S32x1536_64_0)) = pc E C 2 := by
  funext i
  pointwise [k0_pay6, pc, pay3_at]

theorem piece3 (E : Vec Ideal S32x1536 .i8) (C : Vec Ideal S1024x1536 .fp8e5m2) :
    k0_pay9 (k0_pay7 (View.ld C (Rect.unit ![96, 0] ![32, 1536] inb_S1024x1536_S32x1536_96_0))) (k0_pay8 E) = pc E C 3 := by
  funext i
  pointwise [k0_pay9, k0_pay7, k0_pay8, pc, pay3_at]

theorem piece4 (E : Vec Ideal S32x1536 .i8) (C : Vec Ideal S1024x1536 .fp8e5m2) :
    k0_pay10 (k0_pay3 E) (View.ld C (Rect.unit ![128, 0] ![32, 1536] inb_S1024x1536_S32x1536_128_0)) = pc E C 4 := by
  funext i
  pointwise [k0_pay10, pc, pay3_at]

theorem piece5 (E : Vec Ideal S32x1536 .i8) (C : Vec Ideal S1024x1536 .fp8e5m2) :
    k0_pay11 (k0_pay3 E) (View.ld C (Rect.unit ![160, 0] ![32, 1536] inb_S1024x1536_S32x1536_160_0)) = pc E C 5 := by
  funext i
  pointwise [k0_pay11, pc, pay3_at]

theorem piece6 (E : Vec Ideal S32x1536 .i8) (C : Vec Ideal S1024x1536 .fp8e5m2) :
    k0_pay12 (k0_pay3 E) (View.ld C (Rect.unit ![192, 0] ![32, 1536] inb_S1024x1536_S32x1536_192_0)) = pc E C 6 := by
  funext i
  pointwise [k0_pay12, pc, pay3_at]

theorem piece7 (E : Vec Ideal S32x1536 .i8) (C : Vec Ideal S1024x1536 .fp8e5m2) :
    k0_pay13 (k0_pay3 E) (View.ld C (Rect.unit ![224, 0] ![32, 1536] inb_S1024x1536_S32x1536_224_0)) = pc E C 7 := by
  funext i
  pointwise [k0_pay13, pc, pay3_at]

theorem piece8 (E : Vec Ideal S32x1536 .i8) (C : Vec Ideal S1024x1536 .fp8e5m2) :
    k0_pay14 (k0_pay3 E) (View.ld C (Rect.unit ![256, 0] ![32, 1536] inb_S1024x1536_S32x1536_256_0)) = pc E C 8 := by
  funext i
  pointwise [k0_pay14, pc, pay3_at]

theorem piece9 (E : Vec Ideal S32x1536 .i8) (C : Vec Ideal S1024x1536 .fp8e5m2) :
    k0_pay15 (k0_pay3 E) (View.ld C (Rect.unit ![288, 0] ![32, 1536] inb_S1024x1536_S32x1536_288_0)) = pc E C 9 := by
  funext i
  pointwise [k0_pay15, pc, pay3_at]

theorem piece10 (E : Vec Ideal S32x1536 .i8) (C : Vec Ideal S1024x1536 .fp8e5m2) :
    k0_pay16 (k0_pay3 E) (View.ld C (Rect.unit ![320, 0] ![32, 1536] inb_S1024x1536_S32x1536_320_0)) = pc E C 10 := by
  funext i
  pointwise [k0_pay16, pc, pay3_at]

theorem piece11 (E : Vec Ideal S32x1536 .i8) (C : Vec Ideal S1024x1536 .fp8e5m2) :
    k0_pay17 (k0_pay3 E) (View.ld C (Rect.unit ![352, 0] ![32, 1536] inb_S1024x1536_S32x1536_352_0)) = pc E C 11 := by
  funext i
  pointwise [k0_pay17, pc, pay3_at]

theorem piece12 (E : Vec Ideal S32x1536 .i8) (C : Vec Ideal S1024x1536 .fp8e5m2) :
    k0_pay18 (k0_pay3 E) (View.ld C (Rect.unit ![384, 0] ![32, 1536] inb_S1024x1536_S32x1536_384_0)) = pc E C 12 := by
  funext i
  pointwise [k0_pay18, pc, pay3_at]

theorem piece13 (E : Vec Ideal S32x1536 .i8) (C : Vec Ideal S1024x1536 .fp8e5m2) :
    k0_pay19 (k0_pay3 E) (View.ld C (Rect.unit ![416, 0] ![32, 1536] inb_S1024x1536_S32x1536_416_0)) = pc E C 13 := by
  funext i
  pointwise [k0_pay19, pc, pay3_at]

theorem piece14 (E : Vec Ideal S32x1536 .i8) (C : Vec Ideal S1024x1536 .fp8e5m2) :
    k0_pay20 (k0_pay3 E) (View.ld C (Rect.unit ![448, 0] ![32, 1536] inb_S1024x1536_S32x1536_448_0)) = pc E C 14 := by
  funext i
  pointwise [k0_pay20, pc, pay3_at]

theorem piece15 (E : Vec Ideal S32x1536 .i8) (C : Vec Ideal S1024x1536 .fp8e5m2) :
    k0_pay21 (k0_pay3 E) (View.ld C (Rect.unit ![480, 0] ![32, 1536] inb_S1024x1536_S32x1536_480_0)) = pc E C 15 := by
  funext i
  pointwise [k0_pay21, pc, pay3_at]

theorem piece16 (E : Vec Ideal S32x1536 .i8) (C : Vec Ideal S1024x1536 .fp8e5m2) :
    k0_pay22 (k0_pay3 E) (View.ld C (Rect.unit ![512, 0] ![32, 1536] inb_S1024x1536_S32x1536_512_0)) = pc E C 16 := by
  funext i
  pointwise [k0_pay22, pc, pay3_at]

theorem piece17 (E : Vec Ideal S32x1536 .i8) (C : Vec Ideal S1024x1536 .fp8e5m2) :
    k0_pay23 (k0_pay3 E) (View.ld C (Rect.unit ![544, 0] ![32, 1536] inb_S1024x1536_S32x1536_544_0)) = pc E C 17 := by
  funext i
  pointwise [k0_pay23, pc, pay3_at]

theorem piece18 (E : Vec Ideal S32x1536 .i8) (C : Vec Ideal S1024x1536 .fp8e5m2) :
    k0_pay26 (k0_pay24 (View.ld C (Rect.unit ![576, 0] ![32, 1536] inb_S1024x1536_S32x1536_576_0))) (k0_pay25 (k0_pay3 E)) = pc E C 18 := by
  funext i
  pointwise [k0_pay26, k0_pay24, k0_pay25, pc, pay3_at]

theorem piece19 (E : Vec Ideal S32x1536 .i8) (C : Vec Ideal S1024x1536 .fp8e5m2) :
    k0_pay27 (k0_pay3 E) (View.ld C (Rect.unit ![608, 0] ![32, 1536] inb_S1024x1536_S32x1536_608_0)) = pc E C 19 := by
  funext i
  pointwise [k0_pay27, pc, pay3_at]

theorem piece20 (E : Vec Ideal S32x1536 .i8) (C : Vec Ideal S1024x1536 .fp8e5m2) :
    k0_pay28 (k0_pay3 E) (View.ld C (Rect.unit ![640, 0] ![32, 1536] inb_S1024x1536_S32x1536_640_0)) = pc E C 20 := by
  funext i
  pointwise [k0_pay28, pc, pay3_at]

theorem piece21 (E : Vec Ideal S32x1536 .i8) (C : Vec Ideal S1024x1536 .fp8e5m2) :
    k0_pay29 (k0_pay3 E) (View.ld C (Rect.unit ![672, 0] ![32, 1536] inb_S1024x1536_S32x1536_672_0)) = pc E C 21 := by
  funext i
  pointwise [k0_pay29, pc, pay3_at]

theorem piece22 (E : Vec Ideal S32x1536 .i8) (C : Vec Ideal S1024x1536 .fp8e5m2) :
    k0_pay30 (k0_pay3 E) (View.ld C (Rect.unit ![704, 0] ![32, 1536] inb_S1024x1536_S32x1536_704_0)) = pc E C 22 := by
  funext i
  pointwise [k0_pay30, pc, pay3_at]

theorem piece23 (E : Vec Ideal S32x1536 .i8) (C : Vec Ideal S1024x1536 .fp8e5m2) :
    k0_pay31 (k0_pay3 E) (View.ld C (Rect.unit ![736, 0] ![32, 1536] inb_S1024x1536_S32x1536_736_0)) = pc E C 23 := by
  funext i
  pointwise [k0_pay31, pc, pay3_at]

theorem piece24 (E : Vec Ideal S32x1536 .i8) (C : Vec Ideal S1024x1536 .fp8e5m2) :
    k0_pay32 (k0_pay3 E) (View.ld C (Rect.unit ![768, 0] ![32, 1536] inb_S1024x1536_S32x1536_768_0)) = pc E C 24 := by
  funext i
  pointwise [k0_pay32, pc, pay3_at]

theorem piece25 (E : Vec Ideal S32x1536 .i8) (C : Vec Ideal S1024x1536 .fp8e5m2) :
    k0_pay33 (k0_pay3 E) (View.ld C (Rect.unit ![800, 0] ![32, 1536] inb_S1024x1536_S32x1536_800_0)) = pc E C 25 := by
  funext i
  pointwise [k0_pay33, pc, pay3_at]

theorem piece26 (E : Vec Ideal S32x1536 .i8) (C : Vec Ideal S1024x1536 .fp8e5m2) :
    k0_pay34 (k0_pay3 E) (View.ld C (Rect.unit ![832, 0] ![32, 1536] inb_S1024x1536_S32x1536_832_0)) = pc E C 26 := by
  funext i
  pointwise [k0_pay34, pc, pay3_at]

theorem piece27 (E : Vec Ideal S32x1536 .i8) (C : Vec Ideal S1024x1536 .fp8e5m2) :
    k0_pay35 (k0_pay3 E) (View.ld C (Rect.unit ![864, 0] ![32, 1536] inb_S1024x1536_S32x1536_864_0)) = pc E C 27 := by
  funext i
  pointwise [k0_pay35, pc, pay3_at]

theorem piece28 (E : Vec Ideal S32x1536 .i8) (C : Vec Ideal S1024x1536 .fp8e5m2) :
    k0_pay36 (k0_pay3 E) (View.ld C (Rect.unit ![896, 0] ![32, 1536] inb_S1024x1536_S32x1536_896_0)) = pc E C 28 := by
  funext i
  pointwise [k0_pay36, pc, pay3_at]

theorem piece29 (E : Vec Ideal S32x1536 .i8) (C : Vec Ideal S1024x1536 .fp8e5m2) :
    k0_pay37 (k0_pay3 E) (View.ld C (Rect.unit ![928, 0] ![32, 1536] inb_S1024x1536_S32x1536_928_0)) = pc E C 29 := by
  funext i
  pointwise [k0_pay37, pc, pay3_at]

theorem piece30 (E : Vec Ideal S32x1536 .i8) (C : Vec Ideal S1024x1536 .fp8e5m2) :
    k0_pay38 (k0_pay3 E) (View.ld C (Rect.unit ![960, 0] ![32, 1536] inb_S1024x1536_S32x1536_960_0)) = pc E C 30 := by
  funext i
  pointwise [k0_pay38, pc, pay3_at]

theorem piece31 (E : Vec Ideal S32x1536 .i8) (C : Vec Ideal S1024x1536 .fp8e5m2) :
    k0_pay39 (k0_pay3 E) (View.ld C (Rect.unit ![992, 0] ![32, 1536] inb_S1024x1536_S32x1536_992_0)) = pc E C 31 := by
  funext i
  pointwise [k0_pay39, pc, pay3_at]

theorem kS_eq (E : Vec Ideal S32x1536 .i8) (C : Vec Ideal S1024x1536 .fp8e5m2) :
    kS E C = concatenate S1024x1536 0 (List.ofFn fun n : Fin 32 => ⟨S32x1536, pc E C n⟩) concatenates_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S1024x1536_d0 := by
  unfold kS
  refine StableHlo.concatenate_congr _ _ ?_ _ _
  rw [piece0, piece1, piece2, piece3, piece4, piece5, piece6, piece7, piece8, piece9, piece10, piece11, piece12, piece13, piece14, piece15, piece16, piece17, piece18, piece19, piece20, piece21, piece22, piece23, piece24, piece25, piece26, piece27, piece28, piece29, piece30, piece31]
  rfl

theorem kS_at (E : Vec Ideal S32x1536 .i8) (C : Vec Ideal S1024x1536 .fp8e5m2) (k : Fin 1024) (c : Fin 1536) :
    kS E C (ix2 k c) = (C (ix2 k c) * scK (E (ix2 (⟨k.val / 32, by omega⟩ : Fin 32) c)) : EReal) := by
  rw [kS_eq]
  refine (concatenate_ofFn_apply (t := S1024x1536) (s₁ := S32x1536) 0 (pc E C) _ rfl 32 rfl (ix2 k c) ⟨k.val / 32, by omega⟩ rfl
    (ix2 (⟨k.val % 32, by omega⟩ : Fin 32) c) rfl fun b hb => ?_).trans ?_
  · fin_cases b
    · exact absurd rfl hb
    · rfl
  · show (C (ix2 (⟨32 * (k.val / 32) + k.val % 32, _⟩ : Fin 1024) c) * _ : EReal) = _
    congr 3
    exact Fin.ext (Nat.div_add_mod _ _)

/-- One grid point's share of the product. -/
def part (x0 : Vec Ideal S1024x2560 .fp8e4m3) (x1 : Vec Ideal S1024x1 .f32) (x2 : Vec Ideal S1024x1536 .fp8e5m2)
    (x3 : Vec Ideal S32x1536 .i8) (j : S2560x1536.Idx) : EReal :=
  ∑ k : Fin 1024, ((show EReal from x0 (ix2 k (j 0))) * (show EReal from x1 (ix2 k 0)))
    * ((show EReal from x2 (ix2 k (j 1))) * scK (x3 (ix2 (⟨k.val / 32, by omega⟩ : Fin 32) (j 1))))

theorem pay_at (x0 : Vec Ideal S1024x2560 .fp8e4m3) (x1 : Vec Ideal S1024x1 .f32) (x2 : Vec Ideal S1024x1536 .fp8e5m2)
    (x3 : Vec Ideal S32x1536 .i8) (x4 : Vec Ideal S2560x1536 .f32) (j : S2560x1536.Idx) :
    k0_pay40 (k0_pay2 x0 x1) (kS x3 x2) x4 j = ((show EReal from x4 j) + part x0 x1 x2 x3 j : EReal) := by
  pointwise [k0_pay40, k0_pay2, kS_at, part]

theorem zero_at (j : S2560x1536.Idx) : k0_pay1 (F := Ideal) j = (0 : EReal) := by pointwise [k0_pay1]

theorem outB_eq (c : Dev nD) (i : grid0.Coords) (a2 : Memref sig .tc .vmem S1024x2560 .fp8e4m3) (h2 : a2.IsWhole)
    (a3 : Memref sig .tc .vmem S1024x1 .f32) (h3 : a3.IsWhole) (a4 : Memref sig .tc .vmem S1024x1536 .fp8e5m2) (h4 : a4.IsWhole)
    (a5 : Memref sig .tc .vmem S32x1536 .i8) (h5 : a5.IsWhole) (a6 : Memref sig .tc .vmem S2560x1536 .f32) (h6 : a6.IsWhole)
    (hc : ¬cond0_0 i) (x0 : Vec Ideal S1024x2560 .fp8e4m3) (x1 : Vec Ideal S1024x1 .f32) (x2 : Vec Ideal S1024x1536 .fp8e5m2)
    (x3 : Vec Ideal S32x1536 .i8) (x4 : Vec Ideal S2560x1536 .f32) :
    out0_B_4 c i a2 h2 a3 h3 a4 h4 a5 h5 a6 h6 hc x0 x1 x2 x3 x4 = k0_pay40 (k0_pay2 x0 x1) (kS x3 x2) x4 := by
  frame_out
  change k0_pay40 (k0_pay2 _ _) (kS _ _) _ = _
  rw [h5.read_unread, h4.read_unread, View.ld_unit_zero (by decide) _ _]

theorem outA_eq (c : Dev nD) (i : grid0.Coords) (a2 : Memref sig .tc .vmem S1024x2560 .fp8e4m3) (h2 : a2.IsWhole)
    (a3 : Memref sig .tc .vmem S1024x1 .f32) (h3 : a3.IsWhole) (a4 : Memref sig .tc .vmem S1024x1536 .fp8e5m2) (h4 : a4.IsWhole)
    (a5 : Memref sig .tc .vmem S32x1536 .i8) (h5 : a5.IsWhole) (a6 : Memref sig .tc .vmem S2560x1536 .f32) (h6 : a6.IsWhole)
    (hc : cond0_0 i) (x0 : Vec Ideal S1024x2560 .fp8e4m3) (x1 : Vec Ideal S1024x1 .f32) (x2 : Vec Ideal S1024x1536 .fp8e5m2)
    (x3 : Vec Ideal S32x1536 .i8) :
    out0_A_4 c i a2 h2 a3 h3 a4 h4 a5 h5 a6 h6 hc x0 x1 x2 x3 = k0_pay40 (k0_pay2 x0 x1) (kS x3 x2) (k0_pay1 (F := Ideal)) := by
  frame_out
  change k0_pay40 (k0_pay2 _ _) (kS _ _) _ = _
  rw [h5.read_unread, h4.read_unread, View.ld_unit_zero (by decide) _ _]

/-- Which block of each array a grid point holds. -/
theorem idx : ∀ t : Fin cfg0.N, win0_0.index t = ![t.val % 16, 0] ∧ win0_1.index t = ![t.val % 16, 0]
    ∧ win0_2.index t = ![t.val % 16, t.val / 16] ∧ win0_3.index t = ![t.val % 16, t.val / 16] ∧ win0_4.index t = ![0, t.val / 16] :=
  (by decide +kernel : ∀ t : Fin grid0.N, _)

/-- What an exponent code stands for in the reference. -/
def scR (e : BitVec 8) : EReal := Ideal.exp2 ((((e.setWidth 32 - 127#32).toInt : ℝ)) : EReal)

open Cert.DwQkvRefIdeal.Whole (dwOf)

/-- The sixteen shares of a column of tiles add up to the whole product. -/
theorem point (c : Dev nD) (t : Fin cfg0.N) (hf : t.val % 16 = 15)
    (he : ∀ i, scK (m ((c : Thread nD τ).loc main_arg3) i) = scR (m ((c : Thread nD τ).loc main_arg3) i))
    (hlt : ∀ s : Fin 16, 16 * (t.val / 16) + s.val < cfg0.N)
    (y : S2560x1536.Idx) (i : S2560x7680.Idx)
    (hi0 : (i 0 : ℕ) = y 0) (hi1 : (i 1 : ℕ) = t.val / 16 * 1536 + y 1) :
    (∑ s : Fin 16, part (iblk m c 0 ⟨_, hlt s⟩) (iblk m c 1 ⟨_, hlt s⟩) (iblk m c 2 ⟨_, hlt s⟩) (iblk m c 3 ⟨_, hlt s⟩) y : EReal)
      = dwOf (m ((c : Thread nD τ).loc main_arg0)) (m ((c : Thread nD τ).loc main_arg1)) (m ((c : Thread nD τ).loc main_arg2))
        (m ((c : Thread nD τ).loc main_arg3)) i := by
  pointwise [dwOf, Cert.DwQkvRefIdeal.Gen.k0_pay1]
  unfold part
  refine Fin.sum_mul_add_congr fun s k hl => ?_
  refine congrArg₂ (fun a b : EReal => a * b) (congrArg₂ (fun a b : EReal => a * b) ?_ ?_) (congrArg₂ (fun a b : EReal => a * b) ?_ ((congrArg scK ?_).trans (he _)))
  all_goals
    have h1 : (⟨16 * (t.val / 16) + s.val, hlt s⟩ : Fin cfg0.N).val % 16 = s.val := by show (16 * (t.val / 16) + s.val) % 16 = _; omega
    have h2 : (⟨16 * (t.val / 16) + s.val, hlt s⟩ : Fin cfg0.N).val / 16 = t.val / 16 := by show (16 * (t.val / 16) + s.val) / 16 = _; omega
    generalize (⟨16 * (t.val / 16) + s.val, hlt s⟩ : Fin cfg0.N) = u at h1 h2 ⊢
    blk_point [iblk, idx u, h1, h2]

/-- The kernel's result array. -/
theorem final (c : Dev nD) (he : ∀ i, scK (m ((c : Thread nD τ).loc main_arg3) i) = scR (m ((c : Thread nD τ).loc main_arg3) i)) :
    (dats m 0 c).arrAt 4 cfg0.N
    = dwOf (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 16 (fun _ => (0 : EReal))
    (fun t j => part (iblk m c 0 t) (iblk m c 1 t) (iblk m c 2 t) (iblk m c 3 t) j)
    (fun t h j => by rw [outsAt0_A m c t h, outA_eq, pay_at, zero_at])
    (fun t h j => by rw [outsAt0_B m c t h, outB_eq, pay_at])
    t ((flush0_4 t).mp hf) _, zero_add]
  exact point m c t ((flush0_4 t).mp hf) he _ y _ (by blk_simp [idx t]) (by blk_simp [idx t])

end Cert.DwQkvIdeal.Blocks

end
-- ==== Proof.DwOutRuns.lean ====
module

public import proofs.«01_k».proof.Proof.Gen.DwOut.Skeleton
public import proofs.«01_k».proof.Proof.Gen.DwOut.Frame
public import Idealize.ShloMosaic.Lib.Pipeline.TableIdle

/-!
The runs of the body of the output-projection gradient kernel, one for each way its branches fall:
the first grid point (A), the second point, which starts the first block's sum again (B, and with it every first
point of a later block), an even point inside a block (C), an odd point inside a block (D), and the last point of
a block, which also scales the sum (E). The accumulated block and the three scratch buffers are carried from
point to point. This follows the form of the modules generated for kernels whose index maps use no shift.
-/

@[expose] public section

-- membership in a rectangle of production extents (`View.cover_of_tiled`): the elaborator's structural look
-- recurses once per coordinate of the long axes
set_option maxRecDepth 16384

noncomputable section

namespace Cert.DwOut.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 6 (result 2 (%2#2)) is written back at the points ≡ 0 (mod 8) from 8 on. -/
theorem flush0_6 : ∀ t : Fin cfg0.N, (cfg0.win 6).flush t = true ↔ (t.val % 8 = 0 ∧ 8 ≤ t.val) :=
  (by decide +kernel : ∀ t : Fin grid0.N, win0_6.flush t = true ↔ (t.val % 8 = 0 ∧ 8 ≤ t.val))

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := k0_cond2 i = 1#1
/-- It holds at points 0, 1, 9, 17, 25, 33 and 41 only — decided over the grid. -/
theorem hcond0_1 : ∀ t : Fin cfg0.N, cond0_1 (grid0.coords t) ↔ (t.val % 49 = 0 ∨ t.val % 49 = 1 ∨ t.val % 49 = 9 ∨ t.val % 49 = 17 ∨ t.val % 49 = 25 ∨ t.val % 49 = 33 ∨ t.val % 49 = 41) :=
  (by decide +kernel : ∀ t : Fin grid0.N, cond0_1 (grid0.coords t) ↔ (t.val % 49 = 0 ∨ t.val % 49 = 1 ∨ t.val % 49 = 9 ∨ t.val % 49 = 17 ∨ t.val % 49 = 25 ∨ t.val % 49 = 33 ∨ t.val % 49 = 41))

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at points 8, 16, 24, 32, 40 and 48 only — decided over the grid. -/
theorem hcond0_4 : ∀ t : Fin cfg0.N, cond0_4 (grid0.coords t) ↔ (t.val % 49 = 8 ∨ t.val % 49 = 16 ∨ t.val % 49 = 24 ∨ t.val % 49 = 32 ∨ t.val % 49 = 40 ∨ t.val % 49 = 48) :=
  (by decide +kernel : ∀ t : Fin grid0.N, cond0_4 (grid0.coords t) ↔ (t.val % 49 = 8 ∨ t.val % 49 = 16 ∨ t.val % 49 = 24 ∨ t.val % 49 = 32 ∨ t.val % 49 = 40 ∨ t.val % 49 = 48))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case B's branch conditions on the grid, as one proposition. -/
abbrev conds0_B (i : grid0.Coords) : Prop := ¬cond0_0 i ∧ cond0_1 i ∧ ¬cond0_2 i ∧ cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- Case C's branch conditions on the grid, as one proposition. -/
abbrev conds0_C (i : grid0.Coords) : Prop := ¬cond0_0 i ∧ ¬cond0_1 i ∧ cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := ¬cond0_0 i ∧ ¬cond0_1 i ∧ ¬cond0_2 i ∧ cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- Case E's branch conditions on the grid, as one proposition. -/
abbrev conds0_E (i : grid0.Coords) : Prop := ¬cond0_0 i ∧ ¬cond0_1 i ∧ cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- At the points of case A the printed configuration (`Cfg.idle`) calls output 4 live: the case stores into it. -/
theorem liveAt0_4_A : ∀ t : Fin cfg0.N, cond0_0 (grid0.coords t) → cond0_1 (grid0.coords t) → cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_A (grid0.coords t) → cfg0.idle 4 (grid0.coords t) = false) t ⟨h0, h1, h2, h3, h4⟩
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cond0_3 (grid0.coords t) → ¬cond0_4 (grid0.coords t) → cfg0.idle 4 (grid0.coords t) = false :=
  fun t h0 h1 h2 h3 h4 => (by decide +kernel : ∀ t : Fin cfg0.N, conds0_B (grid0.coords t) → cfg0.idle 4 (grid0.coords t) = false) t ⟨h0, h1, h2, h3, h4⟩
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_C (grid0.coords t) → cfg0.idle 4 (grid0.coords t) = false) t ⟨h0, h1, h2, h3, h4⟩
/-- At the points of case D the printed configuration (`Cfg.idle`) calls output 4 live: the case stores into it. -/
theorem liveAt0_4_D : ∀ t : Fin cfg0.N, ¬cond0_0 (grid0.coords t) → ¬cond0_1 (grid0.coords t) → ¬cond0_2 (grid0.coords t) → cond0_3 (grid0.coords t) → ¬cond0_4 (grid0.coords t) → cfg0.idle 4 (grid0.coords t) = false :=
  fun t h0 h1 h2 h3 h4 => (by decide +kernel : ∀ t : Fin cfg0.N, conds0_D (grid0.coords t) → cfg0.idle 4 (grid0.coords t) = false) t ⟨h0, h1, h2, h3, h4⟩
/-- At the points of case E the printed configuration (`Cfg.idle`) calls output 4 live: the case stores into it. -/
theorem liveAt0_4_E : ∀ t : Fin cfg0.N, ¬cond0_0 (grid0.coords t) → ¬cond0_1 (grid0.coords t) → cond0_2 (grid0.coords t) → ¬cond0_3 (grid0.coords t) → cond0_4 (grid0.coords t) → cfg0.idle 4 (grid0.coords t) = false :=
  fun t h0 h1 h2 h3 h4 => (by decide +kernel : ∀ t : Fin cfg0.N, conds0_E (grid0.coords t) → cfg0.idle 4 (grid0.coords t) = false) t ⟨h0, h1, h2, h3, h4⟩
/-- At the points of case A the printed configuration (`Cfg.idle`) calls output 5 live: the case stores into it. -/
theorem liveAt0_5_A : ∀ t : Fin cfg0.N, cond0_0 (grid0.coords t) → cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_A (grid0.coords t) → cfg0.idle 5 (grid0.coords t) = false) t ⟨h0, h1, h2, h3, h4⟩
/-- At the points of case B the printed configuration (`Cfg.idle`) calls output 5 live: the case stores into it. -/
theorem liveAt0_5_B : ∀ t : Fin cfg0.N, ¬cond0_0 (grid0.coords t) → cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_B (grid0.coords t) → cfg0.idle 5 (grid0.coords t) = false) t ⟨h0, h1, h2, h3, h4⟩
/-- At the points of case C the printed configuration (`Cfg.idle`) calls output 5 live: the case stores into it. -/
theorem liveAt0_5_C : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_C (grid0.coords t) → cfg0.idle 5 (grid0.coords t) = false) t ⟨h0, h1, h2, h3, h4⟩
/-- At the points of case D the printed configuration (`Cfg.idle`) calls output 5 live: the case stores into it. -/
theorem liveAt0_5_D : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- At the points of case E the printed configuration (`Cfg.idle`) calls output 5 live: the case stores into it. -/
theorem liveAt0_5_E : ∀ t : Fin cfg0.N, ¬cond0_0 (grid0.coords t) → ¬cond0_1 (grid0.coords t) → cond0_2 (grid0.coords t) → ¬cond0_3 (grid0.coords t) → cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x1010101010100 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
/-- At the points of case C, which keeps output 6's prior contents (reads it before covering, or covers it in part), the
    window's buffer is not FRESH: something was stored into it since the region's entry or its last write-back, idle points
    between or not. -/
theorem notFresh0_6_C : ∀ t : Fin cfg0.N, ¬cond0_0 (grid0.coords t) → ¬cond0_1 (grid0.coords t) → cond0_2 (grid0.coords t) → ¬cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_C (grid0.coords t) → cfg0.fresh 6 t.val = false) t ⟨h0, h1, h2, h3, h4⟩
/-- At the points of case D the printed configuration (`Cfg.idle`) calls output 6 live: the case stores into it. -/
theorem liveAt0_6_D : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
/-- At the points of case D, which keeps output 6's prior contents (reads it before covering, or covers it in part), the
    window's buffer is not FRESH: something was stored into it since the region's entry or its last write-back, idle points
    between or not. -/
theorem notFresh0_6_D : ∀ t : Fin cfg0.N, ¬cond0_0 (grid0.coords t) → ¬cond0_1 (grid0.coords t) → ¬cond0_2 (grid0.coords t) → cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_D (grid0.coords t) → cfg0.fresh 6 t.val = false) t ⟨h0, h1, h2, h3, h4⟩
/-- At the points of case E the printed configuration (`Cfg.idle`) calls output 6 live: the case stores into it. -/
theorem liveAt0_6_E : ∀ t : Fin cfg0.N, ¬cond0_0 (grid0.coords t) → ¬cond0_1 (grid0.coords t) → cond0_2 (grid0.coords t) → ¬cond0_3 (grid0.coords t) → cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩
/-- At the points of case E, which keeps output 6's prior contents (reads it before covering, or covers it in part), the
    window's buffer is not FRESH: something was stored into it since the region's entry or its last write-back, idle points
    between or not. -/
theorem notFresh0_6_E : ∀ t : Fin cfg0.N, ¬cond0_0 (grid0.coords t) → ¬cond0_1 (grid0.coords t) → cond0_2 (grid0.coords t) → ¬cond0_3 (grid0.coords t) → cond0_4 (grid0.coords t) → cfg0.fresh 6 t.val = false :=
  fun t h0 h1 h2 h3 h4 => (by intro t; rw [fresh0_6_eq t]; revert t; decide +kernel : ∀ t : Fin cfg0.N, conds0_E (grid0.coords t) → cfg0.fresh 6 t.val = false) t ⟨h0, h1, h2, h3, h4⟩

/-! ## The kernel body on any staging memrefs: a subtype the run finds -/

/-- One staging buffer of output window 4, through which its contents are stated (`View.read_writes_of_cover`: the
    choice does not matter). -/
abbrev VO0_4 : View sig .tc .vmem S2048x640 .fp8e4m3 := (Memref.whole cc0_stg4_0 : Memref sig .tc .vmem S2048x640 .fp8e4m3).view
/-- One staging buffer of output window 5, through which its contents are stated (`View.read_writes_of_cover`: the
    choice does not matter). -/
abbrev VO0_5 : View sig .tc .vmem S1x640 .f32 := (Memref.whole cc0_stg5_0 : Memref sig .tc .vmem S1x640 .f32).view
/-- One staging buffer of output window 6, through which its contents are stated (`View.read_writes_of_cover`: the
    choice does not matter). -/
abbrev VO0_6 : View sig .tc .vmem S640x2560 .f32 := (Memref.whole cc0_stg6_0 : Memref sig .tc .vmem S640x2560 .f32).view
/-- Each window's current staging memref at point `t`, spelled as the pipeline passes it (`bodyAt0`), and its wholeness. -/
abbrev ms0_0 (t : Fin cfg0.N) : Memref sig .tc .vmem S2048x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2560 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x640 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x2560 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x2048 .bf16 := Memref.whole cc0_scratch0
abbrev scM0_1 : Memref sig .tc .vmem S640x2048 .bf16 := Memref.whole cc0_scratch1
abbrev scM0_2 : Memref sig .tc .vmem S640x128 .f32 := Memref.whole cc0_scratch2
/-- The scratch `arg8` the kernel carries between points, as a view: what it holds is stated through it. -/
abbrev VS0_0 : View sig .tc .vmem S640x2048 .bf16 := scM0_0.view
/-- The scratch `arg9` the kernel carries between points, as a view: what it holds is stated through it. -/
abbrev VS0_1 : View sig .tc .vmem S640x2048 .bf16 := scM0_1.view
/-- The scratch `arg10` the kernel carries between points, as a view: what it holds is stated through it. -/
abbrev VS0_2 : View sig .tc .vmem S640x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : cond0_0 i) (hc1 : cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 taken, `scf.if` 4 not taken: points 1, 9, 17, 25, 33, 41), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, [], ?_, ?_, fun E K => ?run⟩
  case run =>
    simp only [cc0_dw_out_eq_skeleton]; unfold cc0_dw_out_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 not taken: points 2, 4, … 46: 18 of 49), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ owns (c : Thread nD τ) arg9 fullShare xs1 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, [], ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg9.eq_unread hfs1
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]
    · iexists _; isplitr; · ipureintro; exact harg9.read_unread _
      iexact HS1
    iexists _; iexact HS2

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken, `scf.if` 4 not taken: points 3, 5, … 47: 18 of 49), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xs0 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, [], ?_, ?_, fun E K => ?run⟩
  case run =>
    simp only [cc0_dw_out_eq_skeleton]; unfold cc0_dw_out_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 not taken, `scf.if` 4 taken: points 8, 16, 24, 32, 40, 48), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_E (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ owns (c : Thread nD τ) arg9 fullShare xs1 ∗ owns (c : Thread nD τ) arg10 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, [], ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg9.eq_unread hfs1; obtain rfl := harg10.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]
    · iexists _; isplitr; · ipureintro; exact harg9.read_unread _
      iexact HS1
    iexists _; iexact HS2

end Cert.DwOut.Gen

end
-- ==== Proof.DwOutFrame.lean ====
module

public import proofs.«01_k».proof.Proof.DwOutRuns
public import Idealize.ShloMosaic.Lib.Claim

/-!
What the output-projection gradient kernel leaves in its result windows and in its scratch buffers at each grid
point, and from it the run of the whole program and its frame. This follows the form of the modules generated for
kernels whose index maps use no shift.
-/

@[expose] public section

-- membership in a rectangle of production extents (`View.cover_of_tiled`): the elaborator's structural look
-- recurses once per coordinate of the long axes
set_option maxRecDepth 16384

noncomputable section

namespace Cert.DwOut.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : cond0_0 i) (hc1 : cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32)

/-- Case A's pieces for output 4 tile its block, so they cover it. -/
theorem cover0_A_4 (y : S2048x640.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).1 S2048x640.size (by sl_kernel_rfl) y

/-- What case A leaves in output 4's staging buffer: its pieces read back over junk. -/
def out0_A_4 : Vec F S2048x640 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).1)

/-- Case A's pieces for output 5 tile its block, so they cover it. -/
theorem cover0_A_5 (y : S1x640.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1 S1x640.size (by sl_kernel_rfl) y

/-- What case A leaves in output 5's staging buffer: its pieces read back over junk. -/
def out0_A_5 : Vec F S1x640 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1)

/-- Case A's pieces for output 6 tile its block, so they cover it. -/
theorem cover0_A_6 (y : S640x2560.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1 S640x2560.size (by sl_kernel_rfl) y

/-- What case A leaves in output 6's staging buffer: its pieces read back over junk. -/
def out0_A_6 : Vec F S640x2560 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1)

/-- Case A's pieces for scratch `arg8`, which the kernel carries between points, cover it. -/
theorem scover0_A_0 (y : S640x2048.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1 S640x2048.size (by sl_kernel_rfl) y

/-- What case A leaves in scratch `arg8`: its pieces read back over junk. -/
def sout0_A_0 : Vec F S640x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1)

/-- Case A's pieces for scratch `arg9`, which the kernel carries between points, cover it. -/
theorem scover0_A_1 (y : S640x2048.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1 S640x2048.size (by sl_kernel_rfl) y

/-- What case A leaves in scratch `arg9`: its pieces read back over junk. -/
def sout0_A_1 : Vec F S640x2048 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1)

/-- Case A's pieces for scratch `arg10`, which the kernel carries between points, cover it. -/
theorem scover0_A_2 (y : S640x128.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1 S640x128.size (by sl_kernel_rfl) y

/-- What case A leaves in scratch `arg10`: its pieces read back over junk. -/
def sout0_A_2 : Vec F S640x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16)

/-- Case B's pieces for output 4 tile its block, so they cover it. -/
theorem cover0_B_4 (y : S2048x640.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1 S2048x640.size (by sl_kernel_rfl) y

/-- What case B leaves in output 4's staging buffer: its pieces read back over junk. -/
def out0_B_4 : Vec F S2048x640 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1)

/-- Case B's pieces for output 5 tile its block, so they cover it. -/
theorem cover0_B_5 (y : S1x640.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1 S1x640.size (by sl_kernel_rfl) y

/-- What case B leaves in output 5's staging buffer: its pieces read back over junk. -/
def out0_B_5 : Vec F S1x640 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1)

/-- Case B's pieces for output 6 tile its block, so they cover it. -/
theorem cover0_B_6 (y : S640x2560.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1 S640x2560.size (by sl_kernel_rfl) y

/-- What case B leaves in output 6's staging buffer: its pieces read back over junk. -/
def out0_B_6 : Vec F S640x2560 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1)

/-- Case B stores nothing into scratch `arg8`: it holds what the point before left. -/
def sout0_B_0 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16) : Vec F S640x2048 .bf16 := xs0

/-- Case B's pieces for scratch `arg9`, which the kernel carries between points, cover it. -/
theorem scover0_B_1 (y : S640x2048.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1 S640x2048.size (by sl_kernel_rfl) y

/-- What case B leaves in scratch `arg9`: its pieces read back over junk. -/
def sout0_B_1 : Vec F S640x2048 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1)

/-- Case B's pieces for scratch `arg10`, which the kernel carries between points, cover it. -/
theorem scover0_B_2 (y : S640x128.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1 S640x128.size (by sl_kernel_rfl) y

/-- What case B leaves in scratch `arg10`: its pieces read back over junk. -/
def sout0_B_2 : Vec F S640x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16)

/-- Case C's pieces for output 4 tile its block, so they cover it. -/
theorem cover0_C_4 (y : S2048x640.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1 S2048x640.size (by sl_kernel_rfl) y

/-- What case C leaves in output 4's staging buffer: its pieces read back over junk. -/
def out0_C_4 : Vec F S2048x640 .fp8e4m3 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1)

/-- Case C's pieces for output 5 tile its block, so they cover it. -/
theorem cover0_C_5 (y : S1x640.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1 S1x640.size (by sl_kernel_rfl) y

/-- What case C leaves in output 5's staging buffer: its pieces read back over junk. -/
def out0_C_5 : Vec F S1x640 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1)

/-- Case C's pieces for output 6 tile its block, so they cover it. -/
theorem cover0_C_6 (y : S640x2560.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1 S640x2560.size (by sl_kernel_rfl) y

/-- What case C leaves in output 6's staging buffer: its pieces read back over junk. -/
def out0_C_6 : Vec F S640x2560 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1)

/-- Case C's pieces for scratch `arg8`, which the kernel carries between points, cover it. -/
theorem scover0_C_0 (y : S640x2048.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1 S640x2048.size (by sl_kernel_rfl) y

/-- What case C leaves in scratch `arg8`: its pieces read back over junk. -/
def sout0_C_0 : Vec F S640x2048 .bf16 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1)

/-- Case C stores nothing into scratch `arg9`: it holds what the point before left. -/
def sout0_C_1 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) : Vec F S640x2048 .bf16 := xs1

/-- Case C's pieces for scratch `arg10`, which the kernel carries between points, cover it. -/
theorem scover0_C_2 (y : S640x128.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1 S640x128.size (by sl_kernel_rfl) y

/-- What case C leaves in scratch `arg10`: its pieces read back over junk. -/
def sout0_C_2 : Vec F S640x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16)

/-- Case D's pieces for output 4 tile its block, so they cover it. -/
theorem cover0_D_4 (y : S2048x640.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1 S2048x640.size (by sl_kernel_rfl) y

/-- What case D leaves in output 4's staging buffer: its pieces read back over junk. -/
def out0_D_4 : Vec F S2048x640 .fp8e4m3 :=
  VO0_4.read (Elt F) (VO0_4.writes (Elt F) VO0_4.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1)

/-- Case D's pieces for output 5 tile its block, so they cover it. -/
theorem cover0_D_5 (y : S1x640.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1 S1x640.size (by sl_kernel_rfl) y

/-- What case D leaves in output 5's staging buffer: its pieces read back over junk. -/
def out0_D_5 : Vec F S1x640 .f32 :=
  VO0_5.read (Elt F) (VO0_5.writes (Elt F) VO0_5.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1)

/-- Case D's pieces for output 6 tile its block, so they cover it. -/
theorem cover0_D_6 (y : S640x2560.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1 S640x2560.size (by sl_kernel_rfl) y

/-- What case D leaves in output 6's staging buffer: its pieces read back over junk. -/
def out0_D_6 : Vec F S640x2560 .f32 :=
  VO0_6.read (Elt F) (VO0_6.writes (Elt F) VO0_6.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1)

/-- Case D stores nothing into scratch `arg8`: it holds what the point before left. -/
def sout0_D_0 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16) : Vec F S640x2048 .bf16 := xs0

/-- Case D's pieces for scratch `arg9`, which the kernel carries between points, cover it. -/
theorem scover0_D_1 (y : S640x2048.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1 S640x2048.size (by sl_kernel_rfl) y

/-- What case D leaves in scratch `arg9`: its pieces read back over junk. -/
def sout0_D_1 : Vec F S640x2048 .bf16 :=
  VS0_1.read (Elt F) (VS0_1.writes (Elt F) VS0_1.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1)

/-- Case D's pieces for scratch `arg10`, which the kernel carries between points, cover it. -/
theorem scover0_D_2 (y : S640x128.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1 S640x128.size (by sl_kernel_rfl) y

/-- What case D leaves in scratch `arg10`: its pieces read back over junk. -/
def sout0_D_2 : Vec F S640x128 .f32 :=
  VS0_2.read (Elt F) (VS0_2.writes (Elt F) VS0_2.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32)

/-- Case E's pieces for output 4 tile its block, so they cover it. -/
theorem cover0_E_4 (y : S2048x640.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1 S2048x640.size (by sl_kernel_rfl) y

/-- What case E leaves in output 4's staging buffer: its pieces read back over junk. -/
def out0_E_4 : Vec F S2048x640 .fp8e4m3 :=
  VO0_4.read (Elt F) (VO0_4.writes (Elt F) VO0_4.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1)

/-- Case E's pieces for output 5 tile its block, so they cover it. -/
theorem cover0_E_5 (y : S1x640.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1 S1x640.size (by sl_kernel_rfl) y

/-- What case E leaves in output 5's staging buffer: its pieces read back over junk. -/
def out0_E_5 : Vec F S1x640 .f32 :=
  VO0_5.read (Elt F) (VO0_5.writes (Elt F) VO0_5.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1)

/-- Case E's pieces for output 6 tile its block, so they cover it. -/
theorem cover0_E_6 (y : S640x2560.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1 S640x2560.size (by sl_kernel_rfl) y

/-- What case E leaves in output 6's staging buffer: its pieces read back over junk. -/
def out0_E_6 : Vec F S640x2560 .f32 :=
  VO0_6.read (Elt F) (VO0_6.writes (Elt F) VO0_6.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1)

/-- Case E's pieces for scratch `arg8`, which the kernel carries between points, cover it. -/
theorem scover0_E_0 (y : S640x2048.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1 S640x2048.size (by sl_kernel_rfl) y

/-- What case E leaves in scratch `arg8`: its pieces read back over junk. -/
def sout0_E_0 : Vec F S640x2048 .bf16 :=
  VS0_0.read (Elt F) (VS0_0.writes (Elt F) VS0_0.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1)

/-- Case E stores nothing into scratch `arg9`: it holds what the point before left. -/
def sout0_E_1 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32) : Vec F S640x2048 .bf16 := xs1

/-- Case E's pieces for scratch `arg10`, which the kernel carries between points, cover it. -/
theorem scover0_E_2 (y : S640x128.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1 S640x128.size (by sl_kernel_rfl) y

/-- What case E leaves in scratch `arg10`: its pieces read back over junk. -/
def sout0_E_2 : Vec F S640x128 .f32 :=
  VS0_2.read (Elt F) (VS0_2.writes (Elt F) VS0_2.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2048x640 .fp8e4m3 × Vec F S1x640 .f32 × Vec F S640x2560 .f32 × Vec F S640x2048 .bf16 × Vec F S640x2048 .bf16 × Vec F S640x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 49 = 0 then
      if h1 : ((n + 1) % 49 = 0 ∨ (n + 1) % 49 = 1 ∨ (n + 1) % 49 = 9 ∨ (n + 1) % 49 = 17 ∨ (n + 1) % 49 = 25 ∨ (n + 1) % 49 = 33 ∨ (n + 1) % 49 = 41) then
        if h2 : (n + 1) % 2 = 0 then
          if h3 : (n + 1) % 2 = 1 then
            False.elim (by have hN : n + 1 < 49 := lt_of_lt_of_eq hn (show cfg0.N = 49 from N_0); omega)
          else
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 49 := lt_of_lt_of_eq hn (show cfg0.N = 49 from N_0); omega)
      else
        False.elim (by have hN : n + 1 < 49 := lt_of_lt_of_eq hn (show cfg0.N = 49 from N_0); omega)
    else
      if h1 : ((n + 1) % 49 = 0 ∨ (n + 1) % 49 = 1 ∨ (n + 1) % 49 = 9 ∨ (n + 1) % 49 = 17 ∨ (n + 1) % 49 = 25 ∨ (n + 1) % 49 = 33 ∨ (n + 1) % 49 = 41) then
        if h2 : (n + 1) % 2 = 0 then
          False.elim (by have hN : n + 1 < 49 := lt_of_lt_of_eq hn (show cfg0.N = 49 from N_0); omega)
        else
          if h3 : (n + 1) % 2 = 1 then
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1)
          else
            False.elim (by have hN : n + 1 < 49 := lt_of_lt_of_eq hn (show cfg0.N = 49 from N_0); omega)
      else
        if h2 : (n + 1) % 2 = 0 then
          if h3 : (n + 1) % 2 = 1 then
            False.elim (by have hN : n + 1 < 49 := lt_of_lt_of_eq hn (show cfg0.N = 49 from N_0); omega)
          else
            if h4 : ((n + 1) % 49 = 8 ∨ (n + 1) % 49 = 16 ∨ (n + 1) % 49 = 24 ∨ (n + 1) % 49 = 32 ∨ (n + 1) % 49 = 40 ∨ (n + 1) % 49 = 48) then
              (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2)
            else
              (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1)
        else
          if h3 : (n + 1) % 2 = 1 then
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1)
          else
            False.elim (by have hN : n + 1 < 49 := lt_of_lt_of_eq hn (show cfg0.N = 49 from N_0); omega)

/-- `outsAt0` at a point of case A: that case's contents. -/
theorem outsAt0_A (c : Dev nD) (t : Fin cfg0.N) (h0 : t.val % 49 = 0) (h1 : (t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_pos h2).trans ((dif_neg h3).trans ((dif_neg h4).trans rfl))))

/-- `outsAt0` at a point of case B: that case's contents, over what the point before left. -/
theorem outsAt0_B (c : Dev nD) (t : Fin cfg0.N) (h0 : ¬t.val % 49 = 0) (h1 : (t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- `outsAt0` at a point of case C: that case's contents, over what the point before left. -/
theorem outsAt0_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case D: that case's contents, over what the point before left. -/
theorem outsAt0_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case E: that case's contents, over what the point before left. -/
theorem outsAt0_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 49 := lt_of_lt_of_eq t.isLt (show cfg0.N = 49 from N_0)
  rw [after0_6, after0_6]
  by_cases h0 : t.val % 49 = 0
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · exfalso; omega
          · rw [liveAt0_6_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · exfalso; omega
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · exfalso; omega
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [liveAt0_6_B t (fun h => h0 ((hcond0_0 t).mp h)) ((hcond0_1 t).mpr h1) (fun h => h2 ((hcond0_2 t).mp h)) ((hcond0_3 t).mpr h3) (fun h => h4 ((hcond0_4 t).mp h))] at hi
            exact absurd hi Bool.false_ne_true
        · exfalso; omega
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · rw [liveAt0_6_E t (fun h => h0 ((hcond0_0 t).mp h)) (fun h => h1 ((hcond0_1 t).mp h)) ((hcond0_2 t).mpr h2) (fun h => h3 ((hcond0_3 t).mp h)) ((hcond0_4 t).mpr h4)] at hi
            exact absurd hi Bool.false_ne_true
          · rw [liveAt0_6_C t (fun h => h0 ((hcond0_0 t).mp h)) (fun h => h1 ((hcond0_1 t).mp h)) ((hcond0_2 t).mpr h2) (fun h => h3 ((hcond0_3 t).mp h)) (fun h => h4 ((hcond0_4 t).mp h))] at hi
            exact absurd hi Bool.false_ne_true
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [liveAt0_6_D t (fun h => h0 ((hcond0_0 t).mp h)) (fun h => h1 ((hcond0_1 t).mp h)) (fun h => h2 ((hcond0_2 t).mp h)) ((hcond0_3 t).mpr h3) (fun h => h4 ((hcond0_4 t).mp h))] at hi
            exact absurd hi Bool.false_ne_true
        · exfalso; omega
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_C t (fun h => h0 ((hcond0_0 t).mp h)) (fun h => h1 ((hcond0_1 t).mp h)) ((hcond0_2 t).mpr h2) (fun h => h3 ((hcond0_3 t).mp h)) (fun h => h4 ((hcond0_4 t).mp h))]; exact Bool.false_ne_true)]
  dsimp only [dats]
/-- At a point of case D output 6's current staging buffer holds what the point before left: the buffer is not fresh
    there (`notFresh0_6_D`: stored into since the region's entry or the last write-back, carried through the points that
    leave it idle by `hcarry0_6`; Lib/Pipeline/TableIdle.lean `Dat.before_out_traj`). -/
theorem before0_6_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_D t (fun h => h0 ((hcond0_0 t).mp h)) (fun h => h1 ((hcond0_1 t).mp h)) (fun h => h2 ((hcond0_2 t).mp h)) ((hcond0_3 t).mpr h3) (fun h => h4 ((hcond0_4 t).mp h))]; exact Bool.false_ne_true)]
  dsimp only [dats]
/-- At a point of case E output 6's current staging buffer holds what the point before left: the buffer is not fresh
    there (`notFresh0_6_E`: stored into since the region's entry or the last write-back, carried through the points that
    leave it idle by `hcarry0_6`; Lib/Pipeline/TableIdle.lean `Dat.before_out_traj`). -/
theorem before0_6_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_E t (fun h => h0 ((hcond0_0 t).mp h)) (fun h => h1 ((hcond0_1 t).mp h)) ((hcond0_2 t).mpr h2) (fun h => h3 ((hcond0_3 t).mp h)) ((hcond0_4 t).mpr h4)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) ((hcond0_2 t).mpr h2) (fun h => h3 ((hcond0_3 t).mp h)) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) ((hcond0_2 t).mpr h2) (fun h => h3 ((hcond0_3 t).mp h)) (fun h => h4 ((hcond0_4 t).mp h))], after0_6]
            by_cases hz : t.val = 0
            · rw [PhiS_castSucc m c t, PhiS_zero m c _ _ hz, PhiA0_eq]
              rw [outsAt0_A m c t h0 h1 h2 h3 h4]
              unfold out0_A_4 out0_A_5 out0_A_6 sout0_A_0 sout0_A_1 sout0_A_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_A c (grid0.coords t) _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexact HS1
              isplitl [HS2]; · iexact HS2
              iintro ⟨H0, H1, H2, H3, ⟨%e4, H4⟩, ⟨%e5, H5⟩, ⟨%e6, H6⟩, ⟨%es0, HS0⟩, ⟨%es1, HS1⟩, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_A_4 c _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_A_5 c _ _ _ _ _ _ _ _ _ _ _ _ _ _ _ _ _ _ _ _ _ _ _ _ _ _ _ _ _ _)
              unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _)
            · exfalso; have hN : t.val < 49 := lt_of_lt_of_eq t.isLt (show cfg0.N = 49 from N_0); omega
      · exfalso; omega
    · exfalso; omega
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · exfalso; omega
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h)) ((hcond0_3 t).mpr h3) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) ((hcond0_3 t).mpr h3) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_B m c t h0 h1 h2 h3 h4]
              unfold out0_B_4 out0_B_5 out0_B_6 sout0_B_0 sout0_B_1 sout0_B_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexists _; iexact HS1
              isplitl [HS2]; · iexists _; iexact HS2
              iintro ⟨H0, H1, H2, H3, ⟨%e4, H4⟩, ⟨%e5, H5⟩, ⟨%e6, H6⟩, HS0, ⟨%es1, HS1⟩, ⟨%es2, HS2⟩⟩
              isplitl [HS0 HS1 HS2 Hg]
              · isplitl [HS0 HS1 HS2]
                · isplitl [HS0]
                  · iexact HS0
                  isplitl [HS1]
                  · unfold owns; iexists _; isplitr
                    swap; · iexact HS1
                    ipureintro; exact View.read_writes_of_cover _ _ _ _ _ (scover0_B_1 c _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_B_4 c _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_B_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_B_6 c _ _ _ _ _ _ _ _ _ _ _ _ _ _ _ _ _ _ _ _ _ _ _ _ _ _ _ _ _ _ _)
        · exfalso; omega
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_E t (fun h => h0 ((hcond0_0 t).mp h)) (fun h => h1 ((hcond0_1 t).mp h)) ((hcond0_2 t).mpr h2) (fun h => h3 ((hcond0_3 t).mp h)) ((hcond0_4 t).mpr h4)], after0_4]
            rw [show (dats m 0 c).leavesExact 5 t = owns (c : Thread nD τ) (ms0_5 t) fullShare ((dats m 0 c).after 5 t) from by
      unfold Dat.leavesExact; rw [liveAt0_5_E t (fun h => h0 ((hcond0_0 t).mp h)) (fun h => h1 ((hcond0_1 t).mp h)) ((hcond0_2 t).mpr h2) (fun h => h3 ((hcond0_3 t).mp h)) ((hcond0_4 t).mpr h4)], after0_5]
            rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) ((hcond0_2 t).mpr h2) (fun h => h3 ((hcond0_3 t).mp h)) ((hcond0_4 t).mpr h4)], after0_6]
            by_cases hz : t.val = 0
            · exfalso; have hN : t.val < 49 := lt_of_lt_of_eq t.isLt (show cfg0.N = 49 from N_0); omega
            · rw [PhiS_castSucc m c t, PhiS_pos m c _ _ hz]
              rw [outsAt0_E m c t h0 h1 h2 h3 h4]
              simp only [before0_6_E m c t h0 h1 h2 h3 h4]
              unfold out0_E_4 out0_E_5 out0_E_6 sout0_E_0 sout0_E_1 sout0_E_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_E c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) _ _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexists _; iexact HS0
              isplitl [HS1]; · iexact HS1
              isplitl [HS2]; · iexact HS2
              iintro ⟨H0, H1, H2, H3, ⟨%e4, H4⟩, ⟨%e5, H5⟩, ⟨%e6, H6⟩, ⟨%es0, HS0⟩, HS1, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_E_0 c _ _ _ _ _ _ _ _ _ _ _ _ _ _ _ _ _ _ _ _ _ _ _ _ _ _ _ _ _ _ _ _ _)
                  isplitl [HS1]
                  · iexact HS1
                  unfold owns; iexists _; isplitr
                  swap; · iexact HS2
                  ipureintro; exact View.read_writes_of_cover _ _ _ _ _ (scover0_E_2 c _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_E_4 c _ _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_E_5 c _ _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_E_6 c _ _ _ _ _ _ _ _ _ _ _ _ _ _ _ _ _ _ _ _ _ _ _ _ _ _ _ _ _ _ _ _ _)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h)) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2) (fun h => h3 ((hcond0_3 t).mp h)) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_C m c t h0 h1 h2 h3 h4]
              simp only [before0_6_C m c t h0 h1 h2 h3 h4]
              unfold out0_C_4 out0_C_5 out0_C_6 sout0_C_0 sout0_C_1 sout0_C_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexists _; iexact HS0
              isplitl [HS1]; · iexact HS1
              isplitl [HS2]; · iexists _; iexact HS2
              iintro ⟨H0, H1, H2, H3, ⟨%e4, H4⟩, ⟨%e5, H5⟩, ⟨%e6, H6⟩, ⟨%es0, HS0⟩, HS1, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _)
                  isplitl [HS1]
                  · iexact HS1
                  unfold owns; iexists _; isplitr
                  swap; · iexact HS2
                  ipureintro; exact View.read_writes_of_cover _ _ _ _ _ (scover0_C_2 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_C_4 c _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_C_5 c _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _ _)
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) (fun h => h2 ((hcond0_2 t).mp h)) ((hcond0_3 t).mpr h3) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_D m c t h0 h1 h2 h3 h4]
              simp only [before0_6_D m c t h0 h1 h2 h3 h4]
              unfold out0_D_4 out0_D_5 out0_D_6 sout0_D_0 sout0_D_1 sout0_D_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexact HS0
              isplitl [HS1]; · iexists _; iexact HS1
              isplitl [HS2]; · iexists _; iexact HS2
              iintro ⟨H0, H1, H2, H3, ⟨%e4, H4⟩, ⟨%e5, H5⟩, ⟨%e6, H6⟩, HS0, ⟨%es1, HS1⟩, ⟨%es2, HS2⟩⟩
              isplitl [HS0 HS1 HS2 Hg]
              · isplitl [HS0 HS1 HS2]
                · isplitl [HS0]
                  · iexact HS0
                  isplitl [HS1]
                  · unfold owns; iexists _; isplitr
                    swap; · iexact HS1
                    ipureintro; exact View.read_writes_of_cover _ _ _ _ _ (scover0_D_1 c _ _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_D_2 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_D_4 c _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_D_5 c _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_DwOut`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DwOut.Gen

end
-- ==== Proof.DwOutIdealRuns.lean ====
module

public import proofs.«01_k».proof.Proof.Gen.DwOutIdeal.Skeleton
public import proofs.«01_k».proof.Proof.Gen.DwOutIdeal.Frame
public import Idealize.ShloMosaic.Lib.Pipeline.TableIdle

/-!
The runs of the body of the output-projection gradient kernel, one for each way its branches fall:
the first grid point (A), the second point, which starts the first block's sum again (B, and with it every first
point of a later block), an even point inside a block (C), an odd point inside a block (D), and the last point of
a block, which also scales the sum (E). The accumulated block and the three scratch buffers are carried from
point to point. This follows the form of the modules generated for kernels whose index maps use no shift.
-/

@[expose] public section

-- membership in a rectangle of production extents (`View.cover_of_tiled`): the elaborator's structural look
-- recurses once per coordinate of the long axes
set_option maxRecDepth 16384

noncomputable section

namespace Cert.DwOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 6 (result 2 (%2#2)) is written back at the points ≡ 0 (mod 8) from 8 on. -/
theorem flush0_6 : ∀ t : Fin cfg0.N, (cfg0.win 6).flush t = true ↔ (t.val % 8 = 0 ∧ 8 ≤ t.val) :=
  (by decide +kernel : ∀ t : Fin grid0.N, win0_6.flush t = true ↔ (t.val % 8 = 0 ∧ 8 ≤ t.val))

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := k0_cond2 i = 1#1
/-- It holds at points 0, 1, 9, 17, 25, 33 and 41 only — decided over the grid. -/
theorem hcond0_1 : ∀ t : Fin cfg0.N, cond0_1 (grid0.coords t) ↔ (t.val % 49 = 0 ∨ t.val % 49 = 1 ∨ t.val % 49 = 9 ∨ t.val % 49 = 17 ∨ t.val % 49 = 25 ∨ t.val % 49 = 33 ∨ t.val % 49 = 41) :=
  (by decide +kernel : ∀ t : Fin grid0.N, cond0_1 (grid0.coords t) ↔ (t.val % 49 = 0 ∨ t.val % 49 = 1 ∨ t.val % 49 = 9 ∨ t.val % 49 = 17 ∨ t.val % 49 = 25 ∨ t.val % 49 = 33 ∨ t.val % 49 = 41))

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at points 8, 16, 24, 32, 40 and 48 only — decided over the grid. -/
theorem hcond0_4 : ∀ t : Fin cfg0.N, cond0_4 (grid0.coords t) ↔ (t.val % 49 = 8 ∨ t.val % 49 = 16 ∨ t.val % 49 = 24 ∨ t.val % 49 = 32 ∨ t.val % 49 = 40 ∨ t.val % 49 = 48) :=
  (by decide +kernel : ∀ t : Fin grid0.N, cond0_4 (grid0.coords t) ↔ (t.val % 49 = 8 ∨ t.val % 49 = 16 ∨ t.val % 49 = 24 ∨ t.val % 49 = 32 ∨ t.val % 49 = 40 ∨ t.val % 49 = 48))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case B's branch conditions on the grid, as one proposition. -/
abbrev conds0_B (i : grid0.Coords) : Prop := ¬cond0_0 i ∧ cond0_1 i ∧ ¬cond0_2 i ∧ cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- Case C's branch conditions on the grid, as one proposition. -/
abbrev conds0_C (i : grid0.Coords) : Prop := ¬cond0_0 i ∧ ¬cond0_1 i ∧ cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := ¬cond0_0 i ∧ ¬cond0_1 i ∧ ¬cond0_2 i ∧ cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- Case E's branch conditions on the grid, as one proposition. -/
abbrev conds0_E (i : grid0.Coords) : Prop := ¬cond0_0 i ∧ ¬cond0_1 i ∧ cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- At the points of case A the printed configuration (`Cfg.idle`) calls output 4 live: the case stores into it. -/
theorem liveAt0_4_A : ∀ t : Fin cfg0.N, cond0_0 (grid0.coords t) → cond0_1 (grid0.coords t) → cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_A (grid0.coords t) → cfg0.idle 4 (grid0.coords t) = false) t ⟨h0, h1, h2, h3, h4⟩
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cond0_3 (grid0.coords t) → ¬cond0_4 (grid0.coords t) → cfg0.idle 4 (grid0.coords t) = false :=
  fun t h0 h1 h2 h3 h4 => (by decide +kernel : ∀ t : Fin cfg0.N, conds0_B (grid0.coords t) → cfg0.idle 4 (grid0.coords t) = false) t ⟨h0, h1, h2, h3, h4⟩
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_C (grid0.coords t) → cfg0.idle 4 (grid0.coords t) = false) t ⟨h0, h1, h2, h3, h4⟩
/-- At the points of case D the printed configuration (`Cfg.idle`) calls output 4 live: the case stores into it. -/
theorem liveAt0_4_D : ∀ t : Fin cfg0.N, ¬cond0_0 (grid0.coords t) → ¬cond0_1 (grid0.coords t) → ¬cond0_2 (grid0.coords t) → cond0_3 (grid0.coords t) → ¬cond0_4 (grid0.coords t) → cfg0.idle 4 (grid0.coords t) = false :=
  fun t h0 h1 h2 h3 h4 => (by decide +kernel : ∀ t : Fin cfg0.N, conds0_D (grid0.coords t) → cfg0.idle 4 (grid0.coords t) = false) t ⟨h0, h1, h2, h3, h4⟩
/-- At the points of case E the printed configuration (`Cfg.idle`) calls output 4 live: the case stores into it. -/
theorem liveAt0_4_E : ∀ t : Fin cfg0.N, ¬cond0_0 (grid0.coords t) → ¬cond0_1 (grid0.coords t) → cond0_2 (grid0.coords t) → ¬cond0_3 (grid0.coords t) → cond0_4 (grid0.coords t) → cfg0.idle 4 (grid0.coords t) = false :=
  fun t h0 h1 h2 h3 h4 => (by decide +kernel : ∀ t : Fin cfg0.N, conds0_E (grid0.coords t) → cfg0.idle 4 (grid0.coords t) = false) t ⟨h0, h1, h2, h3, h4⟩
/-- At the points of case A the printed configuration (`Cfg.idle`) calls output 5 live: the case stores into it. -/
theorem liveAt0_5_A : ∀ t : Fin cfg0.N, cond0_0 (grid0.coords t) → cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_A (grid0.coords t) → cfg0.idle 5 (grid0.coords t) = false) t ⟨h0, h1, h2, h3, h4⟩
/-- At the points of case B the printed configuration (`Cfg.idle`) calls output 5 live: the case stores into it. -/
theorem liveAt0_5_B : ∀ t : Fin cfg0.N, ¬cond0_0 (grid0.coords t) → cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_B (grid0.coords t) → cfg0.idle 5 (grid0.coords t) = false) t ⟨h0, h1, h2, h3, h4⟩
/-- At the points of case C the printed configuration (`Cfg.idle`) calls output 5 live: the case stores into it. -/
theorem liveAt0_5_C : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_C (grid0.coords t) → cfg0.idle 5 (grid0.coords t) = false) t ⟨h0, h1, h2, h3, h4⟩
/-- At the points of case D the printed configuration (`Cfg.idle`) calls output 5 live: the case stores into it. -/
theorem liveAt0_5_D : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- At the points of case E the printed configuration (`Cfg.idle`) calls output 5 live: the case stores into it. -/
theorem liveAt0_5_E : ∀ t : Fin cfg0.N, ¬cond0_0 (grid0.coords t) → ¬cond0_1 (grid0.coords t) → cond0_2 (grid0.coords t) → ¬cond0_3 (grid0.coords t) → cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x1010101010100 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
/-- At the points of case C, which keeps output 6's prior contents (reads it before covering, or covers it in part), the
    window's buffer is not FRESH: something was stored into it since the region's entry or its last write-back, idle points
    between or not. -/
theorem notFresh0_6_C : ∀ t : Fin cfg0.N, ¬cond0_0 (grid0.coords t) → ¬cond0_1 (grid0.coords t) → cond0_2 (grid0.coords t) → ¬cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_C (grid0.coords t) → cfg0.fresh 6 t.val = false) t ⟨h0, h1, h2, h3, h4⟩
/-- At the points of case D the printed configuration (`Cfg.idle`) calls output 6 live: the case stores into it. -/
theorem liveAt0_6_D : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
/-- At the points of case D, which keeps output 6's prior contents (reads it before covering, or covers it in part), the
    window's buffer is not FRESH: something was stored into it since the region's entry or its last write-back, idle points
    between or not. -/
theorem notFresh0_6_D : ∀ t : Fin cfg0.N, ¬cond0_0 (grid0.coords t) → ¬cond0_1 (grid0.coords t) → ¬cond0_2 (grid0.coords t) → cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_D (grid0.coords t) → cfg0.fresh 6 t.val = false) t ⟨h0, h1, h2, h3, h4⟩
/-- At the points of case E the printed configuration (`Cfg.idle`) calls output 6 live: the case stores into it. -/
theorem liveAt0_6_E : ∀ t : Fin cfg0.N, ¬cond0_0 (grid0.coords t) → ¬cond0_1 (grid0.coords t) → cond0_2 (grid0.coords t) → ¬cond0_3 (grid0.coords t) → cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩
/-- At the points of case E, which keeps output 6's prior contents (reads it before covering, or covers it in part), the
    window's buffer is not FRESH: something was stored into it since the region's entry or its last write-back, idle points
    between or not. -/
theorem notFresh0_6_E : ∀ t : Fin cfg0.N, ¬cond0_0 (grid0.coords t) → ¬cond0_1 (grid0.coords t) → cond0_2 (grid0.coords t) → ¬cond0_3 (grid0.coords t) → cond0_4 (grid0.coords t) → cfg0.fresh 6 t.val = false :=
  fun t h0 h1 h2 h3 h4 => (by intro t; rw [fresh0_6_eq t]; revert t; decide +kernel : ∀ t : Fin cfg0.N, conds0_E (grid0.coords t) → cfg0.fresh 6 t.val = false) t ⟨h0, h1, h2, h3, h4⟩

/-! ## The kernel body on any staging memrefs: a subtype the run finds -/

/-- One staging buffer of output window 4, through which its contents are stated (`View.read_writes_of_cover`: the
    choice does not matter). -/
abbrev VO0_4 : View sig .tc .vmem S2048x640 .fp8e4m3 := (Memref.whole cc0_stg4_0 : Memref sig .tc .vmem S2048x640 .fp8e4m3).view
/-- One staging buffer of output window 5, through which its contents are stated (`View.read_writes_of_cover`: the
    choice does not matter). -/
abbrev VO0_5 : View sig .tc .vmem S1x640 .f32 := (Memref.whole cc0_stg5_0 : Memref sig .tc .vmem S1x640 .f32).view
/-- One staging buffer of output window 6, through which its contents are stated (`View.read_writes_of_cover`: the
    choice does not matter). -/
abbrev VO0_6 : View sig .tc .vmem S640x2560 .f32 := (Memref.whole cc0_stg6_0 : Memref sig .tc .vmem S640x2560 .f32).view
/-- Each window's current staging memref at point `t`, spelled as the pipeline passes it (`bodyAt0`), and its wholeness. -/
abbrev ms0_0 (t : Fin cfg0.N) : Memref sig .tc .vmem S2048x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2560 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x640 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x2560 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x2048 .bf16 := Memref.whole cc0_scratch0
abbrev scM0_1 : Memref sig .tc .vmem S640x2048 .bf16 := Memref.whole cc0_scratch1
abbrev scM0_2 : Memref sig .tc .vmem S640x128 .f32 := Memref.whole cc0_scratch2
/-- The scratch `arg8` the kernel carries between points, as a view: what it holds is stated through it. -/
abbrev VS0_0 : View sig .tc .vmem S640x2048 .bf16 := scM0_0.view
/-- The scratch `arg9` the kernel carries between points, as a view: what it holds is stated through it. -/
abbrev VS0_1 : View sig .tc .vmem S640x2048 .bf16 := scM0_1.view
/-- The scratch `arg10` the kernel carries between points, as a view: what it holds is stated through it. -/
abbrev VS0_2 : View sig .tc .vmem S640x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : cond0_0 i) (hc1 : cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 taken, `scf.if` 4 not taken: points 1, 9, 17, 25, 33, 41), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, [], ?_, ?_, fun E K => ?run⟩
  case run =>
    simp only [cc0_dw_out_eq_skeleton]; unfold cc0_dw_out_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 not taken: points 2, 4, … 46: 18 of 49), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ owns (c : Thread nD τ) arg9 fullShare xs1 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, [], ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg9.eq_unread hfs1
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]
    · iexists _; isplitr; · ipureintro; exact harg9.read_unread _
      iexact HS1
    iexists _; iexact HS2

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken, `scf.if` 4 not taken: points 3, 5, … 47: 18 of 49), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xs0 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, [], ?_, ?_, fun E K => ?run⟩
  case run =>
    simp only [cc0_dw_out_eq_skeleton]; unfold cc0_dw_out_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 not taken, `scf.if` 4 taken: points 8, 16, 24, 32, 40, 48), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_E (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32) :
    Σ' (L4 : List (View.Piece (Elt F) S2048x640 .fp8e4m3)), Σ' (L5 : List (View.Piece (Elt F) S1x640 .f32)), Σ' (L6 : List (View.Piece (Elt F) S640x2560 .f32)), Σ' (LS0 : List (View.Piece (Elt F) S640x2048 .bf16)), Σ' (LS1 : List (View.Piece (Elt F) S640x2048 .bf16)), { LS2 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ owns (c : Thread nD τ) arg9 fullShare xs1 ∗ owns (c : Thread nD τ) arg10 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0_dw_out i arg1 harg1 arg2 harg2 arg3 harg3 arg4 harg4 arg5 harg5 arg6 harg6 arg7 harg7 arg8 harg8 arg9 harg9 arg10 harg10) K } := by
  refine ⟨?_, ?_, ?_, ?_, [], ?_, fun E K => ?run⟩
  case run =>
    simp only [cc0_dw_out_eq_skeleton]; unfold cc0_dw_out_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg9.eq_unread hfs1; obtain rfl := harg10.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]
    · iexists _; isplitr; · ipureintro; exact harg9.read_unread _
      iexact HS1
    iexists _; iexact HS2

end Cert.DwOutIdeal.Gen

end
-- ==== Proof.DwOutIdealFrame.lean ====
module

public import proofs.«01_k».proof.Proof.DwOutIdealRuns
public import Idealize.ShloMosaic.Lib.Claim

/-!
What the output-projection gradient kernel leaves in its result windows and in its scratch buffers at each grid
point, and from it the run of the whole program and its frame. This follows the form of the modules generated for
kernels whose index maps use no shift.
-/

@[expose] public section

-- membership in a rectangle of production extents (`View.cover_of_tiled`): the elaborator's structural look
-- recurses once per coordinate of the long axes
set_option maxRecDepth 16384

noncomputable section

namespace Cert.DwOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : cond0_0 i) (hc1 : cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32)

/-- Case A's pieces for output 4 tile its block, so they cover it. -/
theorem cover0_A_4 (y : S2048x640.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).1 S2048x640.size (by sl_kernel_rfl) y

/-- What case A leaves in output 4's staging buffer: its pieces read back over junk. -/
def out0_A_4 : Vec F S2048x640 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).1)

/-- Case A's pieces for output 5 tile its block, so they cover it. -/
theorem cover0_A_5 (y : S1x640.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1 S1x640.size (by sl_kernel_rfl) y

/-- What case A leaves in output 5's staging buffer: its pieces read back over junk. -/
def out0_A_5 : Vec F S1x640 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.1)

/-- Case A's pieces for output 6 tile its block, so they cover it. -/
theorem cover0_A_6 (y : S640x2560.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1 S640x2560.size (by sl_kernel_rfl) y

/-- What case A leaves in output 6's staging buffer: its pieces read back over junk. -/
def out0_A_6 : Vec F S640x2560 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.1)

/-- Case A's pieces for scratch `arg8`, which the kernel carries between points, cover it. -/
theorem scover0_A_0 (y : S640x2048.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1 S640x2048.size (by sl_kernel_rfl) y

/-- What case A leaves in scratch `arg8`: its pieces read back over junk. -/
def sout0_A_0 : Vec F S640x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.1)

/-- Case A's pieces for scratch `arg9`, which the kernel carries between points, cover it. -/
theorem scover0_A_1 (y : S640x2048.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1 S640x2048.size (by sl_kernel_rfl) y

/-- What case A leaves in scratch `arg9`: its pieces read back over junk. -/
def sout0_A_1 : Vec F S640x2048 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.1)

/-- Case A's pieces for scratch `arg10`, which the kernel carries between points, cover it. -/
theorem scover0_A_2 (y : S640x128.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1 S640x128.size (by sl_kernel_rfl) y

/-- What case A leaves in scratch `arg10`: its pieces read back over junk. -/
def sout0_A_2 : Vec F S640x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 hc1 hc2 hc3 hc4 x0 x1 x2 x3).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16)

/-- Case B's pieces for output 4 tile its block, so they cover it. -/
theorem cover0_B_4 (y : S2048x640.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1 S2048x640.size (by sl_kernel_rfl) y

/-- What case B leaves in output 4's staging buffer: its pieces read back over junk. -/
def out0_B_4 : Vec F S2048x640 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).1)

/-- Case B's pieces for output 5 tile its block, so they cover it. -/
theorem cover0_B_5 (y : S1x640.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1 S1x640.size (by sl_kernel_rfl) y

/-- What case B leaves in output 5's staging buffer: its pieces read back over junk. -/
def out0_B_5 : Vec F S1x640 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.1)

/-- Case B's pieces for output 6 tile its block, so they cover it. -/
theorem cover0_B_6 (y : S640x2560.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1 S640x2560.size (by sl_kernel_rfl) y

/-- What case B leaves in output 6's staging buffer: its pieces read back over junk. -/
def out0_B_6 : Vec F S640x2560 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.1)

/-- Case B stores nothing into scratch `arg8`: it holds what the point before left. -/
def sout0_B_0 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xs0 : Vec F S640x2048 .bf16) : Vec F S640x2048 .bf16 := xs0

/-- Case B's pieces for scratch `arg9`, which the kernel carries between points, cover it. -/
theorem scover0_B_1 (y : S640x2048.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1 S640x2048.size (by sl_kernel_rfl) y

/-- What case B leaves in scratch `arg9`: its pieces read back over junk. -/
def sout0_B_1 : Vec F S640x2048 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.1)

/-- Case B's pieces for scratch `arg10`, which the kernel carries between points, cover it. -/
theorem scover0_B_2 (y : S640x128.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1 S640x128.size (by sl_kernel_rfl) y

/-- What case B leaves in scratch `arg10`: its pieces read back over junk. -/
def sout0_B_2 : Vec F S640x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 hc0 hc1 hc2 hc3 hc4 x0 x1 x2 x3 xs0).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16)

/-- Case C's pieces for output 4 tile its block, so they cover it. -/
theorem cover0_C_4 (y : S2048x640.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1 S2048x640.size (by sl_kernel_rfl) y

/-- What case C leaves in output 4's staging buffer: its pieces read back over junk. -/
def out0_C_4 : Vec F S2048x640 .fp8e4m3 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).1)

/-- Case C's pieces for output 5 tile its block, so they cover it. -/
theorem cover0_C_5 (y : S1x640.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1 S1x640.size (by sl_kernel_rfl) y

/-- What case C leaves in output 5's staging buffer: its pieces read back over junk. -/
def out0_C_5 : Vec F S1x640 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.1)

/-- Case C's pieces for output 6 tile its block, so they cover it. -/
theorem cover0_C_6 (y : S640x2560.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1 S640x2560.size (by sl_kernel_rfl) y

/-- What case C leaves in output 6's staging buffer: its pieces read back over junk. -/
def out0_C_6 : Vec F S640x2560 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.1)

/-- Case C's pieces for scratch `arg8`, which the kernel carries between points, cover it. -/
theorem scover0_C_0 (y : S640x2048.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1 S640x2048.size (by sl_kernel_rfl) y

/-- What case C leaves in scratch `arg8`: its pieces read back over junk. -/
def sout0_C_0 : Vec F S640x2048 .bf16 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.1)

/-- Case C stores nothing into scratch `arg9`: it holds what the point before left. -/
def sout0_C_1 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) : Vec F S640x2048 .bf16 := xs1

/-- Case C's pieces for scratch `arg10`, which the kernel carries between points, cover it. -/
theorem scover0_C_2 (y : S640x128.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1 S640x128.size (by sl_kernel_rfl) y

/-- What case C leaves in scratch `arg10`: its pieces read back over junk. -/
def sout0_C_2 : Vec F S640x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 hc0 hc1 hc2 hc3 hc4 x0 x1 x2 x3 xo6 xs1).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16)

/-- Case D's pieces for output 4 tile its block, so they cover it. -/
theorem cover0_D_4 (y : S2048x640.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1 S2048x640.size (by sl_kernel_rfl) y

/-- What case D leaves in output 4's staging buffer: its pieces read back over junk. -/
def out0_D_4 : Vec F S2048x640 .fp8e4m3 :=
  VO0_4.read (Elt F) (VO0_4.writes (Elt F) VO0_4.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).1)

/-- Case D's pieces for output 5 tile its block, so they cover it. -/
theorem cover0_D_5 (y : S1x640.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1 S1x640.size (by sl_kernel_rfl) y

/-- What case D leaves in output 5's staging buffer: its pieces read back over junk. -/
def out0_D_5 : Vec F S1x640 .f32 :=
  VO0_5.read (Elt F) (VO0_5.writes (Elt F) VO0_5.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.1)

/-- Case D's pieces for output 6 tile its block, so they cover it. -/
theorem cover0_D_6 (y : S640x2560.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1 S640x2560.size (by sl_kernel_rfl) y

/-- What case D leaves in output 6's staging buffer: its pieces read back over junk. -/
def out0_D_6 : Vec F S640x2560 .f32 :=
  VO0_6.read (Elt F) (VO0_6.writes (Elt F) VO0_6.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.1)

/-- Case D stores nothing into scratch `arg8`: it holds what the point before left. -/
def sout0_D_0 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec F S2048x640 .f32) (x1 : Vec F S1x640 .f32) (x2 : Vec F S2048x2560 .fp8e5m2) (x3 : Vec F S2048x1 .f32) (xo6 : Vec F S640x2560 .f32) (xs0 : Vec F S640x2048 .bf16) : Vec F S640x2048 .bf16 := xs0

/-- Case D's pieces for scratch `arg9`, which the kernel carries between points, cover it. -/
theorem scover0_D_1 (y : S640x2048.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1 S640x2048.size (by sl_kernel_rfl) y

/-- What case D leaves in scratch `arg9`: its pieces read back over junk. -/
def sout0_D_1 : Vec F S640x2048 .bf16 :=
  VS0_1.read (Elt F) (VS0_1.writes (Elt F) VS0_1.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.1)

/-- Case D's pieces for scratch `arg10`, which the kernel carries between points, cover it. -/
theorem scover0_D_2 (y : S640x128.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1 S640x128.size (by sl_kernel_rfl) y

/-- What case D leaves in scratch `arg10`: its pieces read back over junk. -/
def sout0_D_2 : Vec F S640x128 .f32 :=
  VS0_2.read (Elt F) (VS0_2.writes (Elt F) VS0_2.junk (kernelRun0_D c i arg1 harg1 arg2 harg2 arg3 harg3 arg4 harg4 arg5 harg5 arg6 harg6 arg7 harg7 arg8 harg8 arg9 harg9 arg10 harg10 hc0 hc1 hc2 hc3 hc4 x0 x1 x2 x3 xo6 xs0).2.2.2.2.2.1)

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32)

/-- Case E's pieces for output 4 tile its block, so they cover it. -/
theorem cover0_E_4 (y : S2048x640.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1 S2048x640.size (by sl_kernel_rfl) y

/-- What case E leaves in output 4's staging buffer: its pieces read back over junk. -/
def out0_E_4 : Vec F S2048x640 .fp8e4m3 :=
  VO0_4.read (Elt F) (VO0_4.writes (Elt F) VO0_4.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).1)

/-- Case E's pieces for output 5 tile its block, so they cover it. -/
theorem cover0_E_5 (y : S1x640.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1 S1x640.size (by sl_kernel_rfl) y

/-- What case E leaves in output 5's staging buffer: its pieces read back over junk. -/
def out0_E_5 : Vec F S1x640 .f32 :=
  VO0_5.read (Elt F) (VO0_5.writes (Elt F) VO0_5.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.1)

/-- Case E's pieces for output 6 tile its block, so they cover it. -/
theorem cover0_E_6 (y : S640x2560.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1 S640x2560.size (by sl_kernel_rfl) y

/-- What case E leaves in output 6's staging buffer: its pieces read back over junk. -/
def out0_E_6 : Vec F S640x2560 .f32 :=
  VO0_6.read (Elt F) (VO0_6.writes (Elt F) VO0_6.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.1)

/-- Case E's pieces for scratch `arg8`, which the kernel carries between points, cover it. -/
theorem scover0_E_0 (y : S640x2048.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1 S640x2048.size (by sl_kernel_rfl) y

/-- What case E leaves in scratch `arg8`: its pieces read back over junk. -/
def sout0_E_0 : Vec F S640x2048 .bf16 :=
  VS0_0.read (Elt F) (VS0_0.writes (Elt F) VS0_0.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.1)

/-- Case E stores nothing into scratch `arg9`: it holds what the point before left. -/
def sout0_E_1 (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec F S2048x640 .f32) (x1 : Vec F S1x640 .f32) (x2 : Vec F S2048x2560 .fp8e5m2) (x3 : Vec F S2048x1 .f32) (xo6 : Vec F S640x2560 .f32) (xs1 : Vec F S640x2048 .bf16) (xs2 : Vec F S640x128 .f32) : Vec F S640x2048 .bf16 := xs1

/-- Case E's pieces for scratch `arg10`, which the kernel carries between points, cover it. -/
theorem scover0_E_2 (y : S640x128.Idx) :
    ∃ pc ∈ (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1 S640x128.size (by sl_kernel_rfl) y

/-- What case E leaves in scratch `arg10`: its pieces read back over junk. -/
def sout0_E_2 : Vec F S640x128 .f32 :=
  VS0_2.read (Elt F) (VS0_2.writes (Elt F) VS0_2.junk (kernelRun0_E c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2).2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2048x640 .fp8e4m3 × Vec F S1x640 .f32 × Vec F S640x2560 .f32 × Vec F S640x2048 .bf16 × Vec F S640x2048 .bf16 × Vec F S640x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 49 = 0 then
      if h1 : ((n + 1) % 49 = 0 ∨ (n + 1) % 49 = 1 ∨ (n + 1) % 49 = 9 ∨ (n + 1) % 49 = 17 ∨ (n + 1) % 49 = 25 ∨ (n + 1) % 49 = 33 ∨ (n + 1) % 49 = 41) then
        if h2 : (n + 1) % 2 = 0 then
          if h3 : (n + 1) % 2 = 1 then
            False.elim (by have hN : n + 1 < 49 := lt_of_lt_of_eq hn (show cfg0.N = 49 from N_0); omega)
          else
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 49 := lt_of_lt_of_eq hn (show cfg0.N = 49 from N_0); omega)
      else
        False.elim (by have hN : n + 1 < 49 := lt_of_lt_of_eq hn (show cfg0.N = 49 from N_0); omega)
    else
      if h1 : ((n + 1) % 49 = 0 ∨ (n + 1) % 49 = 1 ∨ (n + 1) % 49 = 9 ∨ (n + 1) % 49 = 17 ∨ (n + 1) % 49 = 25 ∨ (n + 1) % 49 = 33 ∨ (n + 1) % 49 = 41) then
        if h2 : (n + 1) % 2 = 0 then
          False.elim (by have hN : n + 1 < 49 := lt_of_lt_of_eq hn (show cfg0.N = 49 from N_0); omega)
        else
          if h3 : (n + 1) % 2 = 1 then
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1)
          else
            False.elim (by have hN : n + 1 < 49 := lt_of_lt_of_eq hn (show cfg0.N = 49 from N_0); omega)
      else
        if h2 : (n + 1) % 2 = 0 then
          if h3 : (n + 1) % 2 = 1 then
            False.elim (by have hN : n + 1 < 49 := lt_of_lt_of_eq hn (show cfg0.N = 49 from N_0); omega)
          else
            if h4 : ((n + 1) % 49 = 8 ∨ (n + 1) % 49 = 16 ∨ (n + 1) % 49 = 24 ∨ (n + 1) % 49 = 32 ∨ (n + 1) % 49 = 40 ∨ (n + 1) % 49 = 48) then
              (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2)
            else
              (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.1)
        else
          if h3 : (n + 1) % 2 = 1 then
            if h4 : ((n + 1) % 49 = 8 ∨ (n + 1) % 49 = 16 ∨ (n + 1) % 49 = 24 ∨ (n + 1) % 49 = 32 ∨ (n + 1) % 49 = 40 ∨ (n + 1) % 49 = 48) then
              False.elim (by have hN : n + 1 < 49 := lt_of_lt_of_eq hn (show cfg0.N = 49 from N_0); omega)
            else
              (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1)
          else
            False.elim (by have hN : n + 1 < 49 := lt_of_lt_of_eq hn (show cfg0.N = 49 from N_0); omega)

/-- `outsAt0` at a point of case A: that case's contents. -/
theorem outsAt0_A (c : Dev nD) (t : Fin cfg0.N) (h0 : t.val % 49 = 0) (h1 : (t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_pos h2).trans ((dif_neg h3).trans ((dif_neg h4).trans rfl))))

/-- `outsAt0` at a point of case B: that case's contents, over what the point before left. -/
theorem outsAt0_B (c : Dev nD) (t : Fin cfg0.N) (h0 : ¬t.val % 49 = 0) (h1 : (t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- `outsAt0` at a point of case C: that case's contents, over what the point before left. -/
theorem outsAt0_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case D: that case's contents, over what the point before left. -/
theorem outsAt0_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case E: that case's contents, over what the point before left. -/
theorem outsAt0_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 49 := lt_of_lt_of_eq t.isLt (show cfg0.N = 49 from N_0)
  rw [after0_6, after0_6]
  by_cases h0 : t.val % 49 = 0
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · exfalso; omega
          · rw [liveAt0_6_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · exfalso; omega
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · exfalso; omega
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [liveAt0_6_B t (fun h => h0 ((hcond0_0 t).mp h)) ((hcond0_1 t).mpr h1) (fun h => h2 ((hcond0_2 t).mp h)) ((hcond0_3 t).mpr h3) (fun h => h4 ((hcond0_4 t).mp h))] at hi
            exact absurd hi Bool.false_ne_true
        · exfalso; omega
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · rw [liveAt0_6_E t (fun h => h0 ((hcond0_0 t).mp h)) (fun h => h1 ((hcond0_1 t).mp h)) ((hcond0_2 t).mpr h2) (fun h => h3 ((hcond0_3 t).mp h)) ((hcond0_4 t).mpr h4)] at hi
            exact absurd hi Bool.false_ne_true
          · rw [liveAt0_6_C t (fun h => h0 ((hcond0_0 t).mp h)) (fun h => h1 ((hcond0_1 t).mp h)) ((hcond0_2 t).mpr h2) (fun h => h3 ((hcond0_3 t).mp h)) (fun h => h4 ((hcond0_4 t).mp h))] at hi
            exact absurd hi Bool.false_ne_true
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [liveAt0_6_D t (fun h => h0 ((hcond0_0 t).mp h)) (fun h => h1 ((hcond0_1 t).mp h)) (fun h => h2 ((hcond0_2 t).mp h)) ((hcond0_3 t).mpr h3) (fun h => h4 ((hcond0_4 t).mp h))] at hi
            exact absurd hi Bool.false_ne_true
        · exfalso; omega
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_C t (fun h => h0 ((hcond0_0 t).mp h)) (fun h => h1 ((hcond0_1 t).mp h)) ((hcond0_2 t).mpr h2) (fun h => h3 ((hcond0_3 t).mp h)) (fun h => h4 ((hcond0_4 t).mp h))]; exact Bool.false_ne_true)]
  dsimp only [dats]
/-- At a point of case D output 6's current staging buffer holds what the point before left: the buffer is not fresh
    there (`notFresh0_6_D`: stored into since the region's entry or the last write-back, carried through the points that
    leave it idle by `hcarry0_6`; Lib/Pipeline/TableIdle.lean `Dat.before_out_traj`). -/
theorem before0_6_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_D t (fun h => h0 ((hcond0_0 t).mp h)) (fun h => h1 ((hcond0_1 t).mp h)) (fun h => h2 ((hcond0_2 t).mp h)) ((hcond0_3 t).mpr h3) (fun h => h4 ((hcond0_4 t).mp h))]; exact Bool.false_ne_true)]
  dsimp only [dats]
/-- At a point of case E output 6's current staging buffer holds what the point before left: the buffer is not fresh
    there (`notFresh0_6_E`: stored into since the region's entry or the last write-back, carried through the points that
    leave it idle by `hcarry0_6`; Lib/Pipeline/TableIdle.lean `Dat.before_out_traj`). -/
theorem before0_6_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_E t (fun h => h0 ((hcond0_0 t).mp h)) (fun h => h1 ((hcond0_1 t).mp h)) ((hcond0_2 t).mpr h2) (fun h => h3 ((hcond0_3 t).mp h)) ((hcond0_4 t).mpr h4)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) ((hcond0_2 t).mpr h2) (fun h => h3 ((hcond0_3 t).mp h)) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) ((hcond0_2 t).mpr h2) (fun h => h3 ((hcond0_3 t).mp h)) (fun h => h4 ((hcond0_4 t).mp h))], after0_6]
            by_cases hz : t.val = 0
            · rw [PhiS_castSucc m c t, PhiS_zero m c _ _ hz, PhiA0_eq]
              rw [outsAt0_A m c t h0 h1 h2 h3 h4]
              unfold out0_A_4 out0_A_5 out0_A_6 sout0_A_0 sout0_A_1 sout0_A_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_A c (grid0.coords t) _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexact HS1
              isplitl [HS2]; · iexact HS2
              iintro ⟨H0, H1, H2, H3, ⟨%e4, H4⟩, ⟨%e5, H5⟩, ⟨%e6, H6⟩, ⟨%es0, HS0⟩, ⟨%es1, HS1⟩, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_A_4 c _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_A_5 c _ _ _ _ _ _ _ _ _ _ _ _ _ _ _ _ _ _ _ _ _ _ _ _ _ _ _ _ _ _)
              unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _)
            · exfalso; have hN : t.val < 49 := lt_of_lt_of_eq t.isLt (show cfg0.N = 49 from N_0); omega
      · exfalso; omega
    · exfalso; omega
  · by_cases h1 : (t.val % 49 = 0 ∨ t.val % 49 = 1 ∨ t.val % 49 = 9 ∨ t.val % 49 = 17 ∨ t.val % 49 = 25 ∨ t.val % 49 = 33 ∨ t.val % 49 = 41)
    · by_cases h2 : t.val % 2 = 0
      · exfalso; omega
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h)) ((hcond0_3 t).mpr h3) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) ((hcond0_3 t).mpr h3) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_B m c t h0 h1 h2 h3 h4]
              unfold out0_B_4 out0_B_5 out0_B_6 sout0_B_0 sout0_B_1 sout0_B_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexists _; iexact HS1
              isplitl [HS2]; · iexists _; iexact HS2
              iintro ⟨H0, H1, H2, H3, ⟨%e4, H4⟩, ⟨%e5, H5⟩, ⟨%e6, H6⟩, HS0, ⟨%es1, HS1⟩, ⟨%es2, HS2⟩⟩
              isplitl [HS0 HS1 HS2 Hg]
              · isplitl [HS0 HS1 HS2]
                · isplitl [HS0]
                  · iexact HS0
                  isplitl [HS1]
                  · unfold owns; iexists _; isplitr
                    swap; · iexact HS1
                    ipureintro; exact View.read_writes_of_cover _ _ _ _ _ (scover0_B_1 c _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_B_4 c _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_B_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_B_6 c _ _ _ _ _ _ _ _ _ _ _ _ _ _ _ _ _ _ _ _ _ _ _ _ _ _ _ _ _ _ _)
        · exfalso; omega
    · by_cases h2 : t.val % 2 = 0
      · by_cases h3 : t.val % 2 = 1
        · exfalso; omega
        · by_cases h4 : (t.val % 49 = 8 ∨ t.val % 49 = 16 ∨ t.val % 49 = 24 ∨ t.val % 49 = 32 ∨ t.val % 49 = 40 ∨ t.val % 49 = 48)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_E t (fun h => h0 ((hcond0_0 t).mp h)) (fun h => h1 ((hcond0_1 t).mp h)) ((hcond0_2 t).mpr h2) (fun h => h3 ((hcond0_3 t).mp h)) ((hcond0_4 t).mpr h4)], after0_4]
            rw [show (dats m 0 c).leavesExact 5 t = owns (c : Thread nD τ) (ms0_5 t) fullShare ((dats m 0 c).after 5 t) from by
      unfold Dat.leavesExact; rw [liveAt0_5_E t (fun h => h0 ((hcond0_0 t).mp h)) (fun h => h1 ((hcond0_1 t).mp h)) ((hcond0_2 t).mpr h2) (fun h => h3 ((hcond0_3 t).mp h)) ((hcond0_4 t).mpr h4)], after0_5]
            rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) ((hcond0_2 t).mpr h2) (fun h => h3 ((hcond0_3 t).mp h)) ((hcond0_4 t).mpr h4)], after0_6]
            by_cases hz : t.val = 0
            · exfalso; have hN : t.val < 49 := lt_of_lt_of_eq t.isLt (show cfg0.N = 49 from N_0); omega
            · rw [PhiS_castSucc m c t, PhiS_pos m c _ _ hz]
              rw [outsAt0_E m c t h0 h1 h2 h3 h4]
              simp only [before0_6_E m c t h0 h1 h2 h3 h4]
              unfold out0_E_4 out0_E_5 out0_E_6 sout0_E_0 sout0_E_1 sout0_E_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_E c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) _ _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexists _; iexact HS0
              isplitl [HS1]; · iexact HS1
              isplitl [HS2]; · iexact HS2
              iintro ⟨H0, H1, H2, H3, ⟨%e4, H4⟩, ⟨%e5, H5⟩, ⟨%e6, H6⟩, ⟨%es0, HS0⟩, HS1, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_E_0 c _ _ _ _ _ _ _ _ _ _ _ _ _ _ _ _ _ _ _ _ _ _ _ _ _ _ _ _ _ _ _ _ _)
                  isplitl [HS1]
                  · iexact HS1
                  unfold owns; iexists _; isplitr
                  swap; · iexact HS2
                  ipureintro; exact View.read_writes_of_cover _ _ _ _ _ (scover0_E_2 c _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_E_4 c _ _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_E_5 c _ _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_E_6 c _ _ _ _ _ _ _ _ _ _ _ _ _ _ _ _ _ _ _ _ _ _ _ _ _ _ _ _ _ _ _ _ _)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h)) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2) (fun h => h3 ((hcond0_3 t).mp h)) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_C m c t h0 h1 h2 h3 h4]
              simp only [before0_6_C m c t h0 h1 h2 h3 h4]
              unfold out0_C_4 out0_C_5 out0_C_6 sout0_C_0 sout0_C_1 sout0_C_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexists _; iexact HS0
              isplitl [HS1]; · iexact HS1
              isplitl [HS2]; · iexists _; iexact HS2
              iintro ⟨H0, H1, H2, H3, ⟨%e4, H4⟩, ⟨%e5, H5⟩, ⟨%e6, H6⟩, ⟨%es0, HS0⟩, HS1, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _)
                  isplitl [HS1]
                  · iexact HS1
                  unfold owns; iexists _; isplitr
                  swap; · iexact HS2
                  ipureintro; exact View.read_writes_of_cover _ _ _ _ _ (scover0_C_2 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_C_4 c _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_C_5 c _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _ _)
      · by_cases h3 : t.val % 2 = 1
        · by_cases h4 : (t.val % 49 = 8 ∨ t.val % 49 = 16 ∨ t.val % 49 = 24 ∨ t.val % 49 = 32 ∨ t.val % 49 = 40 ∨ t.val % 49 = 48)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3) (fun h => h4 ((hcond0_4 t).mp h))], after0_4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) (fun h => h2 ((hcond0_2 t).mp h)) ((hcond0_3 t).mpr h3) (fun h => h4 ((hcond0_4 t).mp h))], after0_6]
            by_cases hz : t.val = 0
            · exfalso; have hN : t.val < 49 := lt_of_lt_of_eq t.isLt (show cfg0.N = 49 from N_0); omega
            · rw [PhiS_castSucc m c t, PhiS_pos m c _ _ hz]
              rw [outsAt0_D m c t h0 h1 h2 h3 h4]
              simp only [before0_6_D m c t h0 h1 h2 h3 h4]
              unfold out0_D_4 out0_D_5 out0_D_6 sout0_D_0 sout0_D_1 sout0_D_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _ _).2.2.2.2.2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexact H6
              isplitl [HS0]; · iexact HS0
              isplitl [HS1]; · iexists _; iexact HS1
              isplitl [HS2]; · iexists _; iexact HS2
              iintro ⟨H0, H1, H2, H3, ⟨%e4, H4⟩, ⟨%e5, H5⟩, ⟨%e6, H6⟩, HS0, ⟨%es1, HS1⟩, ⟨%es2, HS2⟩⟩
              isplitl [HS0 HS1 HS2 Hg]
              · isplitl [HS0 HS1 HS2]
                · isplitl [HS0]
                  · iexact HS0
                  isplitl [HS1]
                  · unfold owns; iexists _; isplitr
                    swap; · iexact HS1
                    ipureintro; exact View.read_writes_of_cover _ _ _ _ _ (scover0_D_1 c _ _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_D_2 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_D_4 c _ _ _ _ _ _ _ _ _ _ _ _ _ _ _ _ _ _ _ _ _ _ _ _ _ _ _ _ _ _ _ _)
              isplitl [H5]
              · unfold owns; iexists _; isplitr
                swap; · iexact H5
                ipureintro; exact View.read_writes_of_cover _ _ _ _ _ (cover0_D_5 c _ _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_DwOutIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DwOutIdeal.Gen

end
-- ==== Proof.DwOutIdealValue.lean ====
module

public import proofs.«01_k».proof.Proof.DwOutIdealFrame
public import Idealize.ShloMosaic.Lib.Pipeline.Value

/-!
What the results of the output-projection gradient kernel hold at the end, read off the run point by point.
-/

@[expose] public section

noncomputable section

namespace Cert.DwOutIdeal.Value

open Cert.DwOutIdeal Cert.DwOutIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 49 = 0) (h1 : (t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  simp only [flushed4, outsAt0_A m c t h0 h1 h2 h3 h4]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 49 = 0) (h1 : (t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1) := by
  simp only [flushed4, outsAt0_B m c t h0 h1 h2 h3 h4]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1) := by
  simp only [flushed4, outsAt0_C m c t h0 h1 h2 h3 h4]

/-- … so at a point where case D runs, what its write-back would write is that case's NAMED TERM for the window (`Gen.out0_D_4`: the pieces
    its run found, read back) at the point's memrefs and input blocks, and for an output the case reads back what the point before left (`Gen.outsAt0` at `t - 1`) — by the frame's rewriting lemma for the case. -/
theorem flushed4_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 4 t = (cfg0.win 4).cut (grid0.coords t) (out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed4, outsAt0_D m c t h0 h1 h2 h3 h4]

/-- … so at a point where case E runs, what its write-back would write is that case's NAMED TERM for the window (`Gen.out0_E_4`: the pieces
    its run found, read back) at the point's memrefs and input blocks, and for an output the case reads back what the point before left (`Gen.outsAt0` at `t - 1`) — by the frame's rewriting lemma for the case. -/
theorem flushed4_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) :
    (dats m 0 c).flushed 4 t = (cfg0.win 4).cut (grid0.coords t) (out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed4, outsAt0_E m c t h0 h1 h2 h3 h4]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S16384x3840.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 49 = 0) (h1 : (t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  simp only [flushed5, outsAt0_A m c t h0 h1 h2 h3 h4]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 49 = 0) (h1 : (t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1) := by
  simp only [flushed5, outsAt0_B m c t h0 h1 h2 h3 h4]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1) := by
  simp only [flushed5, outsAt0_C m c t h0 h1 h2 h3 h4]

/-- … so at a point where case D runs, what its write-back would write is that case's NAMED TERM for the window (`Gen.out0_D_5`: the pieces
    its run found, read back) at the point's memrefs and input blocks, and for an output the case reads back what the point before left (`Gen.outsAt0` at `t - 1`) — by the frame's rewriting lemma for the case. -/
theorem flushed5_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed5, outsAt0_D m c t h0 h1 h2 h3 h4]

/-- … so at a point where case E runs, what its write-back would write is that case's NAMED TERM for the window (`Gen.out0_E_5`: the pieces
    its run found, read back) at the point's memrefs and input blocks, and for an output the case reads back what the point before left (`Gen.outsAt0` at `t - 1`) — by the frame's rewriting lemma for the case. -/
theorem flushed5_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) :
    (dats m 0 c).flushed 5 t = (cfg0.win 5).cut (grid0.coords t) (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed5, outsAt0_E m c t h0 h1 h2 h3 h4]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1x3840.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 49 = 0) (h1 : (t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  simp only [flushed6, outsAt0_A m c t h0 h1 h2 h3 h4]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 49 = 0) (h1 : (t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.2.1) := by
  simp only [flushed6, outsAt0_B m c t h0 h1 h2 h3 h4]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : ¬(t.val % 49 = 8 ∨ t.val % 49 = 16 ∨ t.val % 49 = 24 ∨ t.val % 49 = 32 ∨ t.val % 49 = 40 ∨ t.val % 49 = 48)) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1) := by
  simp only [flushed6, outsAt0_C m c t h0 h1 h2 h3 h4]

/-- … so at a point where case D runs, what its write-back would write is that case's NAMED TERM for the window (`Gen.out0_D_6`: the pieces
    its run found, read back) at the point's memrefs and input blocks, and for an output the case reads back what the point before left (`Gen.outsAt0` at `t - 1`) — by the frame's rewriting lemma for the case. -/
theorem flushed6_D (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : ¬t.val % 2 = 0) (h3 : t.val % 2 = 1) (h4 : ¬(t.val % 49 = 8 ∨ t.val % 49 = 16 ∨ t.val % 49 = 24 ∨ t.val % 49 = 32 ∨ t.val % 49 = 40 ∨ t.val % 49 = 48)) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed6, outsAt0_D m c t h0 h1 h2 h3 h4]

/-- … so at a point where case E runs, what its write-back would write is that case's NAMED TERM for the window (`Gen.out0_E_6`: the pieces
    its run found, read back) at the point's memrefs and input blocks, and for an output the case reads back what the point before left (`Gen.outsAt0` at `t - 1`) — by the frame's rewriting lemma for the case. -/
theorem flushed6_E (c : Dev nD) (t : Fin cfg0.N) (h0 : ¬t.val % 49 = 0) (h1 : ¬(t.val % 49 = 0 ∨ t.val % 49 = 1 ∨ t.val % 49 = 9 ∨ t.val % 49 = 17 ∨ t.val % 49 = 25 ∨ t.val % 49 = 33 ∨ t.val % 49 = 41)) (h2 : t.val % 2 = 0) (h3 : ¬t.val % 2 = 1) (h4 : (t.val % 49 = 8 ∨ t.val % 49 = 16 ∨ t.val % 49 = 24 ∨ t.val % 49 = 32 ∨ t.val % 49 = 40 ∨ t.val % 49 = 48)) :
    (dats m 0 c).flushed 6 t = (cfg0.win 6).cut (grid0.coords t) (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed6, outsAt0_E m c t h0 h1 h2 h3 h4]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S3840x2560.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.DwOutIdeal.Value

end
-- ==== Proof.DwOutBlocks.lean ====
module

public import proofs.«01_k».proof.Defs
public import proofs.«01_k».proof.Proof.DwOutIdealValue
public import proofs.«01_k».proof.Proof.Gen.DwOutRefIdeal.Value
public import Idealize.ShloMosaic.Lib.Pipeline.ValueKit
public import Idealize.ShloMosaic.Lib.Pointwise

/-!
What each grid point of the output-projection gradient kernel leaves in its result windows and its scratch buffers, as
the body's own arithmetic on the blocks the point reads.
-/

@[expose] public section

set_option maxRecDepth 16384

noncomputable section

open Idealize.ShloMosaic Idealize.ShloMosaic.TcCoe Idealize.SL.Sem

namespace Cert.DwOutIdeal.Blocks

open Cert.DwOutIdeal Cert.DwOutIdeal.Gen

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : cond0_0 i) (hc1 : cond0_1 i) (hc2 : cond0_2 i) (hc3 : ¬cond0_3 i) (hc4 : ¬cond0_4 i)
    (x0 : Vec Ideal S2048x640 .f32) (x1 : Vec Ideal S1x640 .f32) (x2 : Vec Ideal S2048x2560 .fp8e5m2) (x3 : Vec Ideal S2048x1 .f32)

theorem out0_A_4_eq : out0_A_4 c i arg1 harg1 arg2 harg2 arg3 harg3 arg4 harg4 arg5 harg5 arg6 harg6 arg7 harg7 arg8 harg8 arg9 harg9 arg10 harg10 hc0 hc1 hc2 hc3 hc4 x0 x1 x2 x3
    = k0_pay4 x1 x0 := by
  frame_out

theorem out0_A_5_eq : out0_A_5 c i arg1 harg1 arg2 harg2 arg3 harg3 arg4 harg4 arg5 harg5 arg6 harg6 arg7 harg7 arg8 harg8 arg9 harg9 arg10 harg10 hc0 hc1 hc2 hc3 hc4 x0 x1 x2 x3
    = k0_pay3 x1 := by
  frame_out

theorem sout0_A_0_eq : sout0_A_0 c i arg1 harg1 arg2 harg2 arg3 harg3 arg4 harg4 arg5 harg5 arg6 harg6 arg7 harg7 arg8 harg8 arg9 harg9 arg10 harg10 hc0 hc1 hc2 hc3 hc4 x0 x1 x2 x3
    = k0_pay12 (k0_pay5 x1 x0) := by
  frame_out

theorem sout0_A_2_eq : sout0_A_2 c i arg1 harg1 arg2 harg2 arg3 harg3 arg4 harg4 arg5 harg5 arg6 harg6 arg7 harg7 arg8 harg8 arg9 harg9 arg10 harg10 hc0 hc1 hc2 hc3 hc4 x0 x1 x2 x3
    = k0_pay1 x1 := by
  frame_out

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : cond0_1 i) (hc2 : ¬cond0_2 i) (hc3 : cond0_3 i) (hc4 : ¬cond0_4 i)
    (x0 : Vec Ideal S2048x640 .f32) (x1 : Vec Ideal S1x640 .f32) (x2 : Vec Ideal S2048x2560 .fp8e5m2) (x3 : Vec Ideal S2048x1 .f32) (xs0 : Vec Ideal S640x2048 .bf16)

theorem out0_B_4_eq : out0_B_4 c i arg1 harg1 arg2 harg2 arg3 harg3 arg4 harg4 arg5 harg5 arg6 harg6 arg7 harg7 arg8 harg8 arg9 harg9 arg10 harg10 hc0 hc1 hc2 hc3 hc4 x0 x1 x2 x3 xs0
    = k0_pay4 x1 x0 := by
  frame_out
  rfl

theorem out0_B_5_eq : out0_B_5 c i arg1 harg1 arg2 harg2 arg3 harg3 arg4 harg4 arg5 harg5 arg6 harg6 arg7 harg7 arg8 harg8 arg9 harg9 arg10 harg10 hc0 hc1 hc2 hc3 hc4 x0 x1 x2 x3 xs0
    = k0_pay3 x1 := by
  frame_out
  rfl

theorem out0_B_6_eq : out0_B_6 c i arg1 harg1 arg2 harg2 arg3 harg3 arg4 harg4 arg5 harg5 arg6 harg6 arg7 harg7 arg8 harg8 arg9 harg9 arg10 harg10 hc0 hc1 hc2 hc3 hc4 x0 x1 x2 x3 xs0
    = k0_pay2 x2 x3 (k0_pay11 (F := Ideal)) xs0 := by
  frame_out
  rfl

theorem sout0_B_1_eq : sout0_B_1 c i arg1 harg1 arg2 harg2 arg3 harg3 arg4 harg4 arg5 harg5 arg6 harg6 arg7 harg7 arg8 harg8 arg9 harg9 arg10 harg10 hc0 hc1 hc2 hc3 hc4 x0 x1 x2 x3 xs0
    = k0_pay12 (k0_pay5 x1 x0) := by
  frame_out
  rfl

theorem sout0_B_2_eq : sout0_B_2 c i arg1 harg1 arg2 harg2 arg3 harg3 arg4 harg4 arg5 harg5 arg6 harg6 arg7 harg7 arg8 harg8 arg9 harg9 arg10 harg10 hc0 hc1 hc2 hc3 hc4 x0 x1 x2 x3 xs0
    = k0_pay1 x1 := by
  frame_out

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : ¬cond0_4 i)
    (x0 : Vec Ideal S2048x640 .f32) (x1 : Vec Ideal S1x640 .f32) (x2 : Vec Ideal S2048x2560 .fp8e5m2) (x3 : Vec Ideal S2048x1 .f32) (xo6 : Vec Ideal S640x2560 .f32) (xs1 : Vec Ideal S640x2048 .bf16)

theorem out0_C_4_eq : out0_C_4 c i arg1 harg1 arg2 harg2 arg3 harg3 arg4 harg4 arg5 harg5 arg6 harg6 arg7 harg7 arg8 harg8 arg9 harg9 arg10 harg10 hc0 hc1 hc2 hc3 hc4 x0 x1 x2 x3 xo6 xs1
    = k0_pay4 x1 x0 := by
  frame_out

theorem out0_C_5_eq : out0_C_5 c i arg1 harg1 arg2 harg2 arg3 harg3 arg4 harg4 arg5 harg5 arg6 harg6 arg7 harg7 arg8 harg8 arg9 harg9 arg10 harg10 hc0 hc1 hc2 hc3 hc4 x0 x1 x2 x3 xo6 xs1
    = k0_pay3 x1 := by
  frame_out

theorem out0_C_6_eq : out0_C_6 c i arg1 harg1 arg2 harg2 arg3 harg3 arg4 harg4 arg5 harg5 arg6 harg6 arg7 harg7 arg8 harg8 arg9 harg9 arg10 harg10 hc0 hc1 hc2 hc3 hc4 x0 x1 x2 x3 xo6 xs1
    = k0_pay2 x2 x3 xo6 xs1 := by
  frame_out

theorem sout0_C_0_eq : sout0_C_0 c i arg1 harg1 arg2 harg2 arg3 harg3 arg4 harg4 arg5 harg5 arg6 harg6 arg7 harg7 arg8 harg8 arg9 harg9 arg10 harg10 hc0 hc1 hc2 hc3 hc4 x0 x1 x2 x3 xo6 xs1
    = k0_pay12 (k0_pay5 x1 x0) := by
  frame_out

theorem sout0_C_2_eq : sout0_C_2 c i arg1 harg1 arg2 harg2 arg3 harg3 arg4 harg4 arg5 harg5 arg6 harg6 arg7 harg7 arg8 harg8 arg9 harg9 arg10 harg10 hc0 hc1 hc2 hc3 hc4 x0 x1 x2 x3 xo6 xs1
    = k0_pay1 x1 := by
  frame_out

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : ¬cond0_2 i) (hc3 : cond0_3 i) (hc4 : ¬cond0_4 i)
    (x0 : Vec Ideal S2048x640 .f32) (x1 : Vec Ideal S1x640 .f32) (x2 : Vec Ideal S2048x2560 .fp8e5m2) (x3 : Vec Ideal S2048x1 .f32) (xo6 : Vec Ideal S640x2560 .f32) (xs0 : Vec Ideal S640x2048 .bf16)

theorem out0_D_4_eq : out0_D_4 c i arg1 harg1 arg2 harg2 arg3 harg3 arg4 harg4 arg5 harg5 arg6 harg6 arg7 harg7 arg8 harg8 arg9 harg9 arg10 harg10 hc0 hc1 hc2 hc3 hc4 x0 x1 x2 x3 xo6 xs0
    = k0_pay4 x1 x0 := by
  frame_out
  rfl

theorem out0_D_5_eq : out0_D_5 c i arg1 harg1 arg2 harg2 arg3 harg3 arg4 harg4 arg5 harg5 arg6 harg6 arg7 harg7 arg8 harg8 arg9 harg9 arg10 harg10 hc0 hc1 hc2 hc3 hc4 x0 x1 x2 x3 xo6 xs0
    = k0_pay3 x1 := by
  frame_out
  rfl

theorem out0_D_6_eq : out0_D_6 c i arg1 harg1 arg2 harg2 arg3 harg3 arg4 harg4 arg5 harg5 arg6 harg6 arg7 harg7 arg8 harg8 arg9 harg9 arg10 harg10 hc0 hc1 hc2 hc3 hc4 x0 x1 x2 x3 xo6 xs0
    = k0_pay2 x2 x3 xo6 xs0 := by
  frame_out
  rfl

theorem sout0_D_1_eq : sout0_D_1 c i arg1 harg1 arg2 harg2 arg3 harg3 arg4 harg4 arg5 harg5 arg6 harg6 arg7 harg7 arg8 harg8 arg9 harg9 arg10 harg10 hc0 hc1 hc2 hc3 hc4 x0 x1 x2 x3 xo6 xs0
    = k0_pay12 (k0_pay5 x1 x0) := by
  frame_out
  rfl

theorem sout0_D_2_eq : sout0_D_2 c i arg1 harg1 arg2 harg2 arg3 harg3 arg4 harg4 arg5 harg5 arg6 harg6 arg7 harg7 arg8 harg8 arg9 harg9 arg10 harg10 hc0 hc1 hc2 hc3 hc4 x0 x1 x2 x3 xo6 xs0
    = k0_pay1 x1 := by
  frame_out

end

section
variable (c : Dev nD) (i : grid0.Coords) (arg1 : Memref sig .tc .vmem S2048x640 .f32) (harg1 : arg1.IsWhole) (arg2 : Memref sig .tc .vmem S1x640 .f32) (harg2 : arg2.IsWhole) (arg3 : Memref sig .tc .vmem S2048x2560 .fp8e5m2) (harg3 : arg3.IsWhole) (arg4 : Memref sig .tc .vmem S2048x1 .f32) (harg4 : arg4.IsWhole) (arg5 : Memref sig .tc .vmem S2048x640 .fp8e4m3) (harg5 : arg5.IsWhole) (arg6 : Memref sig .tc .vmem S1x640 .f32) (harg6 : arg6.IsWhole) (arg7 : Memref sig .tc .vmem S640x2560 .f32) (harg7 : arg7.IsWhole) (arg8 : Memref sig .tc .vmem S640x2048 .bf16) (harg8 : arg8.IsWhole) (arg9 : Memref sig .tc .vmem S640x2048 .bf16) (harg9 : arg9.IsWhole) (arg10 : Memref sig .tc .vmem S640x128 .f32) (harg10 : arg10.IsWhole) (hc0 : ¬cond0_0 i) (hc1 : ¬cond0_1 i) (hc2 : cond0_2 i) (hc3 : ¬cond0_3 i) (hc4 : cond0_4 i)
    (x0 : Vec Ideal S2048x640 .f32) (x1 : Vec Ideal S1x640 .f32) (x2 : Vec Ideal S2048x2560 .fp8e5m2) (x3 : Vec Ideal S2048x1 .f32) (xo6 : Vec Ideal S640x2560 .f32) (xs1 : Vec Ideal S640x2048 .bf16) (xs2 : Vec Ideal S640x128 .f32)

theorem out0_E_4_eq : out0_E_4 c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2
    = k0_pay4 x1 x0 := by
  frame_out

theorem out0_E_5_eq : out0_E_5 c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2
    = k0_pay3 x1 := by
  frame_out

theorem out0_E_6_eq : out0_E_6 c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2
    = k0_pay14 xs2 (k0_pay2 x2 x3 xo6 xs1) := by
  frame_out

theorem sout0_E_0_eq : sout0_E_0 c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2
    = k0_pay12 (k0_pay5 x1 x0) := by
  frame_out

theorem sout0_E_2_eq : sout0_E_2 c i arg1 harg1 arg2 harg2 arg3 harg3 arg4 harg4 arg5 harg5 arg6 harg6 arg7 harg7 arg8 harg8 arg9 harg9 arg10 harg10 hc0 hc1 hc2 hc3 hc4 x0 x1 x2 x3 xo6 xs1 xs2
    = k0_pay1 x1 := by
  frame_out

end

end Cert.DwOutIdeal.Blocks

end
-- ==== Proof.DwOut.lean ====
module

public import proofs.«01_k».proof.Proof.DwOutBlocks

/-!
The gradient of the output projection: the arrays the kernel leaves are the arrays of the reference.
-/

@[expose] public section

set_option maxRecDepth 16384

noncomputable section

open Idealize.ShloMosaic Idealize.ShloMosaic.TcCoe Idealize.SL.Sem

namespace Cert.DwOutRefIdeal.Whole

open Cert.DwOutRefIdeal Cert.DwOutRefIdeal.Gen

variable (m : (ℓ : Loc nD τ sig) → Buf (Elt Ideal) ℓ)

/-- The largest absolute value of each column. -/
def amax (y : FVec Ideal S8x2048x3840 .f32) : FVec Ideal S3840 .f32 :=
  Host.reduce FloatOps.maximumf (Host.absf y) (constant S_ .f32 0xFF800000#32) Gen.reducesTo_S8x2048x3840_S3840_d0_1 Gen.h_S_

/-- The scale of each column, from the column's maximum. -/
def scale (a : FVec Ideal S3840 .f32) : FVec Ideal S3840 .f32 :=
  select (cmpf .oeq a (broadcastInDim S3840 ![] Gen.bcast_S_S3840 (constant (F := Ideal) S_ .f32 0x00000000#32)))
    (broadcastInDim S3840 ![] Gen.bcast_S_S3840 (id (constant (F := Ideal) S_ .f32 0x3F800000#32)))
    (Host.divf a (broadcastInDim S3840 ![] Gen.bcast_S_S3840 (constant (F := Ideal) S_ .f32 0x43E00000#32)))

/-- The scales as a row. -/
def rowOf (a : FVec Ideal S3840 .f32) : FVec Ideal S1x3840 .f32 := shapeCast S1x3840 (scale a) Gen.shapeCasts_S3840_S1x3840

/-- The codes. -/
def codesOf (y : FVec Ideal S8x2048x3840 .f32) (a : FVec Ideal S3840 .f32) : FVec Ideal S16384x3840 .fp8e4m3 :=
  k0_pay1 (shapeCast S16384x3840 y Gen.shapeCasts_S8x2048x3840_S16384x3840) (rowOf a)

/-- The weight gradient. -/
def dwOf (y : FVec Ideal S8x2048x3840 .f32) (a : FVec Ideal S3840 .f32) (d : FVec Ideal S16384x2560 .fp8e5m2)
    (s : FVec Ideal S16384x1 .f32) : FVec Ideal S3840x2560 .f32 :=
  k0_pay2 (shapeCast S16384x3840 y Gen.shapeCasts_S8x2048x3840_S16384x3840) (rowOf a) d s
    (shapeCast S3840x1 (scale a) Gen.shapeCasts_S3840_S3840x1)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem out5_eq (x0 : Vec Ideal S16384x3840 .f32) (x1 : Vec Ideal S1x3840 .f32) (x2 : Vec Ideal S3840x1 .f32)
    (x3 : Vec Ideal S16384x2560 .fp8e5m2) (x4 : Vec Ideal S16384x1 .f32) : out0_5 x0 x1 x2 x3 x4 = k0_pay1 x0 x1 := by
  frame_out

theorem out6_eq (x0 : Vec Ideal S16384x3840 .f32) (x1 : Vec Ideal S1x3840 .f32) (x2 : Vec Ideal S3840x1 .f32)
    (x3 : Vec Ideal S16384x2560 .fp8e5m2) (x4 : Vec Ideal S16384x1 .f32) : out0_6 x0 x1 x2 x3 x4 = k0_pay2 x0 x1 x3 x4 x2 := by
  frame_out

/-- The row of scales the host computes before the region. -/
theorem row_eq (c : Dev nD) : V m c main_v7 = rowOf (amax (m ((c : Thread nD τ).loc main_arg0))) := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  unfold rowOf scale amax
  rfl

theorem column_eq (c : Dev nD) : V m c main_v8
    = shapeCast S3840x1 (scale (amax (m ((c : Thread nD τ).loc main_arg0)))) Gen.shapeCasts_S3840_S3840x1 := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  unfold scale amax
  rfl

theorem rows_eq (c : Dev nD) : V m c main_v9
    = shapeCast S16384x3840 (m ((c : Thread nD τ).loc main_arg0)) Gen.shapeCasts_S8x2048x3840_S16384x3840 := by
  entry_read
  rfl

theorem whole1 (x : Vec Ideal S1x3840 .f32) : ((cfg0.win 1).blk t0_0).view.read (Elt Ideal) x = x := by
  funext j
  blk_point [idx t0_0]

theorem whole2 (x : Vec Ideal S3840x1 .f32) : ((cfg0.win 2).blk t0_0).view.read (Elt Ideal) x = x := by
  funext j
  blk_point [idx t0_0]

theorem e0 (c : Dev nD) : (iblk m c 0 t0_0 : Vec Ideal S16384x3840 .f32)
    = shapeCast S16384x3840 (m ((c : Thread nD τ).loc main_arg0)) Gen.shapeCasts_S8x2048x3840_S16384x3840 := by
  rw [← rows_eq]
  funext j
  blk_point [iblk, idx t0_0]

theorem e1 (c : Dev nD) : (iblk m c 1 t0_0 : Vec Ideal S1x3840 .f32) = rowOf (amax (m ((c : Thread nD τ).loc main_arg0))) := by
  exact (whole1 _).trans (row_eq m c)

theorem e2 (c : Dev nD) : (iblk m c 2 t0_0 : Vec Ideal S3840x1 .f32)
    = shapeCast S3840x1 (scale (amax (m ((c : Thread nD τ).loc main_arg0)))) Gen.shapeCasts_S3840_S3840x1 := by
  exact (whole2 _).trans (column_eq m c)

theorem e3 (c : Dev nD) : (iblk m c 3 t0_0 : Vec Ideal S16384x2560 .fp8e5m2) = m ((c : Thread nD τ).loc main_arg2) := by
  funext j
  blk_point [iblk, idx t0_0]

theorem e4 (c : Dev nD) : (iblk m c 4 t0_0 : Vec Ideal S16384x1 .f32) = m ((c : Thread nD τ).loc main_arg3) := by
  funext j
  blk_point [iblk, idx t0_0]

/-- The reference's codes. -/
theorem final_codes (c : Dev nD) : (dats m 0 c).arrAt 5 cfg0.N
    = codesOf (m ((c : Thread nD τ).loc main_arg0)) (amax (m ((c : Thread nD τ).loc main_arg0))) := by
  refine (dats m 0 c).arrAt_eq_of_after_last 5 t0_0 (by decide +kernel) _ fun j => ?_
  blk_simp
  rw [after0_5, out5_eq]
  unfold codesOf
  rw [← e0, ← e1]

/-- The reference's weight gradient. -/
theorem final_dw (c : Dev nD) : (dats m 0 c).arrAt 6 cfg0.N
    = dwOf (m ((c : Thread nD τ).loc main_arg0)) (amax (m ((c : Thread nD τ).loc main_arg0))) (m ((c : Thread nD τ).loc main_arg2))
        (m ((c : Thread nD τ).loc main_arg3)) := by
  refine (dats m 0 c).arrAt_eq_of_after_last 6 t0_0 (by decide +kernel) _ fun j => ?_
  blk_simp
  rw [after0_6, out6_eq]
  unfold dwOf
  rw [← e0, ← e1, ← e2, ← e3 m c, ← e4 m c]

theorem arrRef_1 : Pipeline.arrRef spec0 1 = main_v7 := rfl

/-- The scales the host leaves. -/
theorem final_row (c : Dev nD) : (dats m 0 c).arrAt 1 cfg0.N = rowOf (amax (m ((c : Thread nD τ).loc main_arg0))) := by
  rw [Pipeline.Dat.arrAt_in _ 1 rfl, A_eq]
  have e := row_eq m c
  generalize rowOf (amax (m ((c : Thread nD τ).loc main_arg0))) = z at e ⊢
  exact e

end Cert.DwOutRefIdeal.Whole

namespace Cert.DwOutIdeal.Blocks

open Cert.DwOutIdeal Cert.DwOutIdeal.Gen

variable (m : (ℓ : Loc nD τ sig) → Buf (Elt Ideal) ℓ) [Cert.Pre_ymax_is_the_maximum.Facts]

/-- Every point leaves the codes of its block. -/
theorem codes_at (c : Dev nD) (t : Fin cfg0.N) : (outsAt0 m c t.val t.isLt).1 = k0_pay4 (iblk m c 1 t) (iblk m c 0 t) := by
  have hN : t.val < 49 := lt_of_lt_of_eq t.isLt (show cfg0.N = 49 from N_0)
  have hm : t.val % 49 = t.val := Nat.mod_eq_of_lt hN
  by_cases h0 : t.val = 0
  · rw [outsAt0_A m c t (by omega) (by omega) (by omega) (by omega) (by omega), out0_A_4_eq]
  by_cases h1 : t.val % 8 = 1
  · rw [outsAt0_B m c t (by omega) (by omega) (by omega) (by omega) (by omega), out0_B_4_eq]
  by_cases h2 : t.val % 8 = 0
  · rw [outsAt0_E m c t (by omega) (by omega) (by omega) (by omega) (by omega), out0_E_4_eq]
  by_cases h3 : t.val % 2 = 0
  · rw [outsAt0_C m c t (by omega) (by omega) (by omega) (by omega) (by omega), out0_C_4_eq]
  · rw [outsAt0_D m c t (by omega) (by omega) (by omega) (by omega) (by omega), out0_D_4_eq]

/-- Every point leaves the scales of its block's columns. -/
theorem scales_at (c : Dev nD) (t : Fin cfg0.N) : (outsAt0 m c t.val t.isLt).2.1 = k0_pay3 (iblk m c 1 t) := by
  have hN : t.val < 49 := lt_of_lt_of_eq t.isLt (show cfg0.N = 49 from N_0)
  have hm : t.val % 49 = t.val := Nat.mod_eq_of_lt hN
  by_cases h0 : t.val = 0
  · rw [outsAt0_A m c t (by omega) (by omega) (by omega) (by omega) (by omega), out0_A_5_eq]
  by_cases h1 : t.val % 8 = 1
  · rw [outsAt0_B m c t (by omega) (by omega) (by omega) (by omega) (by omega), out0_B_5_eq]
  by_cases h2 : t.val % 8 = 0
  · rw [outsAt0_E m c t (by omega) (by omega) (by omega) (by omega) (by omega), out0_E_5_eq]
  by_cases h3 : t.val % 2 = 0
  · rw [outsAt0_C m c t (by omega) (by omega) (by omega) (by omega) (by omega), out0_C_5_eq]
  · rw [outsAt0_D m c t (by omega) (by omega) (by omega) (by omega) (by omega), out0_D_5_eq]

/-- The transposed codes of a point's block, as the point after reads them. -/
def staged (c : Dev nD) (t : Fin cfg0.N) : FVec Ideal S640x2048 .bf16 := k0_pay12 (k0_pay5 (iblk m c 1 t) (iblk m c 0 t))

/-- An even point leaves them in the first buffer. -/
theorem even_at (c : Dev nD) (t : Fin cfg0.N) (h : t.val % 2 = 0) : (outsAt0 m c t.val t.isLt).2.2.2.1 = staged m c t := by
  unfold staged
  have hN : t.val < 49 := lt_of_lt_of_eq t.isLt (show cfg0.N = 49 from N_0)
  have hm : t.val % 49 = t.val := Nat.mod_eq_of_lt hN
  by_cases h0 : t.val = 0
  · rw [outsAt0_A m c t (by omega) (by omega) (by omega) (by omega) (by omega), sout0_A_0_eq]
  by_cases h2 : t.val % 8 = 0
  · rw [outsAt0_E m c t (by omega) (by omega) (by omega) (by omega) (by omega), sout0_E_0_eq]
  · rw [outsAt0_C m c t (by omega) (by omega) (by omega) (by omega) (by omega), sout0_C_0_eq]

/-- An odd point leaves them in the second. -/
theorem odd_at (c : Dev nD) (t : Fin cfg0.N) (h : t.val % 2 = 1) : (outsAt0 m c t.val t.isLt).2.2.2.2.1 = staged m c t := by
  unfold staged
  have hN : t.val < 49 := lt_of_lt_of_eq t.isLt (show cfg0.N = 49 from N_0)
  have hm : t.val % 49 = t.val := Nat.mod_eq_of_lt hN
  by_cases h1 : t.val % 8 = 1
  · rw [outsAt0_B m c t (by omega) (by omega) (by omega) (by omega) (by omega), sout0_B_1_eq]
  · rw [outsAt0_D m c t (by omega) (by omega) (by omega) (by omega) (by omega), sout0_D_1_eq]

/-- Every point leaves its columns' maxima, as a column, in the third. -/
theorem maxima_at (c : Dev nD) (t : Fin cfg0.N) : (outsAt0 m c t.val t.isLt).2.2.2.2.2 = k0_pay1 (iblk m c 1 t) := by
  have hN : t.val < 49 := lt_of_lt_of_eq t.isLt (show cfg0.N = 49 from N_0)
  have hm : t.val % 49 = t.val := Nat.mod_eq_of_lt hN
  by_cases h0 : t.val = 0
  · rw [outsAt0_A m c t (by omega) (by omega) (by omega) (by omega) (by omega), sout0_A_2_eq]
  by_cases h1 : t.val % 8 = 1
  · rw [outsAt0_B m c t (by omega) (by omega) (by omega) (by omega) (by omega), sout0_B_2_eq]
  by_cases h2 : t.val % 8 = 0
  · rw [outsAt0_E m c t (by omega) (by omega) (by omega) (by omega) (by omega), sout0_E_2_eq]
  by_cases h3 : t.val % 2 = 0
  · rw [outsAt0_C m c t (by omega) (by omega) (by omega) (by omega) (by omega), sout0_C_2_eq]
  · rw [outsAt0_D m c t (by omega) (by omega) (by omega) (by omega) (by omega), sout0_D_2_eq]

/-- The point before. -/
def pred (t : Fin cfg0.N) : Fin cfg0.N := ⟨t.val - 1, Nat.lt_of_le_of_lt (Nat.sub_le _ _) t.isLt⟩

/-- The first point of a column of tiles starts the sum. -/
theorem first_at (c : Dev nD) (t : Fin cfg0.N) (h : t.val % 8 = 1) : (outsAt0 m c t.val t.isLt).2.2.1
    = k0_pay2 (iblk m c 2 t) (iblk m c 3 t) (k0_pay11 (F := Ideal)) (staged m c (pred t)) := by
  have hN : t.val < 49 := lt_of_lt_of_eq t.isLt (show cfg0.N = 49 from N_0)
  have hm : t.val % 49 = t.val := Nat.mod_eq_of_lt hN
  have e : (outsAt0 m c (t.val - 1) (Nat.lt_of_le_of_lt (Nat.sub_le _ _) t.isLt)).2.2.2.1 = staged m c (pred t) :=
    even_at m c (pred t) (by show (t.val - 1) % 2 = 0; omega)
  rw [outsAt0_B m c t (by omega) (by omega) (by omega) (by omega) (by omega), out0_B_6_eq, e]

/-- A further point adds its share. -/
theorem next_at (c : Dev nD) (t : Fin cfg0.N) (h1 : t.val % 8 ≠ 1) (h0 : t.val % 8 ≠ 0) : (outsAt0 m c t.val t.isLt).2.2.1
    = k0_pay2 (iblk m c 2 t) (iblk m c 3 t) (outsAt0 m c (t.val - 1) (Nat.lt_of_le_of_lt (Nat.sub_le _ _) t.isLt)).2.2.1
        (staged m c (pred t)) := by
  have hN : t.val < 49 := lt_of_lt_of_eq t.isLt (show cfg0.N = 49 from N_0)
  have hm : t.val % 49 = t.val := Nat.mod_eq_of_lt hN
  by_cases h3 : t.val % 2 = 0
  · have e : (outsAt0 m c (t.val - 1) (Nat.lt_of_le_of_lt (Nat.sub_le _ _) t.isLt)).2.2.2.2.1 = staged m c (pred t) :=
      odd_at m c (pred t) (by show (t.val - 1) % 2 = 1; omega)
    rw [outsAt0_C m c t (by omega) (by omega) (by omega) (by omega) (by omega), out0_C_6_eq, e]
  · have e : (outsAt0 m c (t.val - 1) (Nat.lt_of_le_of_lt (Nat.sub_le _ _) t.isLt)).2.2.2.1 = staged m c (pred t) :=
      even_at m c (pred t) (by show (t.val - 1) % 2 = 0; omega)
    rw [outsAt0_D m c t (by omega) (by omega) (by omega) (by omega) (by omega), out0_D_6_eq, e]

/-- The last point of a column of tiles adds its share and multiplies by the scales. -/
theorem last_at (c : Dev nD) (t : Fin cfg0.N) (h0 : t.val % 8 = 0) (hp : 0 < t.val) : (outsAt0 m c t.val t.isLt).2.2.1
    = k0_pay14 (k0_pay1 (iblk m c 1 (pred t)))
        (k0_pay2 (iblk m c 2 t) (iblk m c 3 t) (outsAt0 m c (t.val - 1) (Nat.lt_of_le_of_lt (Nat.sub_le _ _) t.isLt)).2.2.1
          (staged m c (pred t))) := by
  have hN : t.val < 49 := lt_of_lt_of_eq t.isLt (show cfg0.N = 49 from N_0)
  have hm : t.val % 49 = t.val := Nat.mod_eq_of_lt hN
  have e : (outsAt0 m c (t.val - 1) (Nat.lt_of_le_of_lt (Nat.sub_le _ _) t.isLt)).2.2.2.2.1 = staged m c (pred t) :=
    odd_at m c (pred t) (by show (t.val - 1) % 2 = 1; omega)
  have e2 : (outsAt0 m c (t.val - 1) (Nat.lt_of_le_of_lt (Nat.sub_le _ _) t.isLt)).2.2.2.2.2 = k0_pay1 (iblk m c 1 (pred t)) :=
    maxima_at m c (pred t)
  rw [outsAt0_E m c t (by omega) (by omega) (by omega) (by omega) (by omega), out0_E_6_eq, e, e2]

/-- One point's share of the product. -/
def share (c : Dev nD) (t : Fin cfg0.N) (j : S640x2560.Idx) : EReal :=
  ∑ k : Fin 2048, (show EReal from k0_pay4 (F := Ideal) (iblk m c 1 (pred t)) (iblk m c 0 (pred t)) (ix2 k (j 0)))
    * ((show EReal from (iblk m c 2 t : Vec Ideal S2048x2560 .fp8e5m2) (ix2 k (j 1))) * (show EReal from (iblk m c 3 t : Vec Ideal S2048x1 .f32) (ix2 k 0)))

theorem staged_at (c : Dev nD) (t : Fin cfg0.N) (v : Fin 640) (k : Fin 2048) :
    staged m c t (ix2 v k) = (show EReal from k0_pay4 (F := Ideal) (iblk m c 1 t) (iblk m c 0 t) (ix2 k v)) := by
  unfold staged
  generalize (iblk m c 1 t : Vec Ideal S1x640 .f32) = x1
  generalize (iblk m c 0 t : Vec Ideal S2048x640 .f32) = x0
  pointwise [k0_pay12, k0_pay5]

theorem pay_at (x2 : Vec Ideal S2048x2560 .fp8e5m2) (x3 : Vec Ideal S2048x1 .f32) (x6 : Vec Ideal S640x2560 .f32)
    (s : FVec Ideal S640x2048 .bf16) (j : S640x2560.Idx) :
    k0_pay2 x2 x3 x6 s j = ((show EReal from x6 j)
      + ∑ k : Fin 2048, (show EReal from s (ix2 (j 0) k)) * ((show EReal from x2 (ix2 k (j 1))) * (show EReal from x3 (ix2 k 0))) : EReal) := by
  pointwise [k0_pay2]

theorem zero_at (j : S640x2560.Idx) : k0_pay11 (F := Ideal) j = (0 : EReal) := by pointwise [k0_pay11]

/-- The sum over a column of tiles, before its last point. -/
theorem sum_at (c : Dev nD) (v : ℕ) (r : ℕ) (hr : r < 7) (hv : 8 * v + 1 + r < cfg0.N) (j : S640x2560.Idx) :
    (outsAt0 m c (8 * v + 1 + r) hv).2.2.1 j = (∑ s : Fin (r + 1), share m c ⟨8 * v + 1 + s.val, by have := s.isLt; omega⟩ j : EReal) := by
  induction r with
  | zero =>
    rw [Fin.sum_univ_one, first_at m c ⟨8 * v + 1 + 0, hv⟩ (by show (8 * v + 1 + 0) % 8 = 1; omega), pay_at, zero_at, zero_add]
    unfold share
    exact Finset.sum_congr rfl fun k _ => congrArg (fun a : EReal => a * _) (staged_at m c _ (j 0) k)
  | succ r ih =>
    rw [Fin.sum_univ_castSucc, next_at m c ⟨8 * v + 1 + (r + 1), hv⟩ (by show (8 * v + 1 + (r + 1)) % 8 ≠ 1; omega)
      (by show (8 * v + 1 + (r + 1)) % 8 ≠ 0; omega), pay_at]
    refine congrArg₂ (fun a b : EReal => a + b) (ih (by omega) (by omega)) ?_
    unfold share
    exact Finset.sum_congr rfl fun k _ => congrArg (fun a : EReal => a * _) (staged_at m c _ (j 0) k)

/-- Which block of each array a grid point holds: a point reads the block it quantises ahead of the block it multiplies. -/
theorem idx : ∀ t : Fin cfg0.N, win0_0.index t = ![min t.val 47 % 8, min t.val 47 / 8] ∧ win0_1.index t = ![0, min t.val 47 / 8]
    ∧ win0_2.index t = ![(t.val - 1) % 8, 0] ∧ win0_3.index t = ![(t.val - 1) % 8, 0]
    ∧ win0_4.index t = ![min t.val 47 % 8, min t.val 47 / 8] ∧ win0_5.index t = ![0, min t.val 47 / 8]
    ∧ win0_6.index t = ![(t.val - 1) / 8, 0] :=
  (by decide +kernel : ∀ t : Fin grid0.N, _)

open Cert.DwOutRefIdeal.Whole (scale rowOf codesOf dwOf)

/-- A column's scale, from its maximum. -/
def sc (a : EReal) : EReal := if a = 0 then 1 else Ideal.div a (Ideal.ofBits .f32 0x43E00000#32)

/-- The codes' value, from an entry and its column's scale. -/
def code (y s : EReal) : EReal := min (Ideal.ofBits .f32 0x43E00000#32) (max (Ideal.ofBits .f32 0xC3E00000#32) (Ideal.div y s))

theorem scale_at (a : FVec Ideal Cert.DwOutRefIdeal.S3840 .f32) (v : Fin 3840) : scale a (ix1 v) = sc (a (ix1 v)) := by
  unfold scale
  rw [id_eq]
  pointwise [sc]

theorem rowOf_at (a : FVec Ideal Cert.DwOutRefIdeal.S3840 .f32) (v : Fin 3840) : rowOf a (ix2 0 v) = sc (a (ix1 v)) := by
  rw [← scale_at]
  pointwise [rowOf]

theorem codesOf_at (y : FVec Ideal Cert.DwOutRefIdeal.S8x2048x3840 .f32) (a : FVec Ideal Cert.DwOutRefIdeal.S3840 .f32) (k : Fin 16384) (v : Fin 3840) :
    codesOf y a (ix2 k v) = code (y (ix3 ⟨k.val / 2048, by omega⟩ ⟨k.val % 2048, by omega⟩ v)) (sc (a (ix1 v))) := by
  rw [← rowOf_at]
  pointwise [codesOf, Cert.DwOutRefIdeal.Gen.k0_pay1, code]

theorem pay3_at (x1 : Vec Ideal S1x640 .f32) (v : Fin 640) : k0_pay3 x1 (ix2 0 v) = sc (x1 (ix2 0 v)) := by
  pointwise [k0_pay3, sc]

theorem pay4_at (x1 : Vec Ideal S1x640 .f32) (x0 : Vec Ideal S2048x640 .f32) (k : Fin 2048) (v : Fin 640) :
    k0_pay4 x1 x0 (ix2 k v) = code (x0 (ix2 k v)) (sc (x1 (ix2 0 v))) := by
  rw [← pay3_at]
  pointwise [k0_pay4, code]

theorem pay14_at (x1 : Vec Ideal S1x640 .f32) (z : Vec Ideal S640x2560 .f32) (j : S640x2560.Idx) :
    k0_pay14 (k0_pay1 x1) z j = ((show EReal from z j) * sc (x1 (ix2 0 (j 0))) : EReal) := by
  pointwise [k0_pay14, k0_pay1, sc]

variable {a : FVec Ideal Cert.DwOutRefIdeal.S3840 .f32}

/-- The maxima a point reads. -/
theorem maxima_read (c : Dev nD) (ha : m ((c : Thread nD τ).loc main_arg1) = shapeCast S5x1x768 a Cert.Pre_ymax_is_the_maximum.Facts.shapeCasts_S3840_S5x1x768)
    (t : Fin cfg0.N) (v : Fin 640) (w : Fin 3840) (hw : w.val = min t.val 47 / 8 * 640 + v.val) :
    (iblk m c 1 t : Vec Ideal S1x640 .f32) (ix2 0 v) = a (ix1 w) := by
  have e : (iblk m c 1 t : Vec Ideal S1x640 .f32) (ix2 0 v)
      = m ((c : Thread nD τ).loc main_arg1) (ix3 (⟨w.val / 768, by omega⟩ : Fin 5) (0 : Fin 1) (⟨w.val % 768, by omega⟩ : Fin 768)) := by
    blk_point [iblk, idx t, hw]
  rw [e, ha]
  pointwise

/-- The entries a point reads. -/
theorem entry_read_at (c : Dev nD) (t : Fin cfg0.N) (k : Fin 2048) (v : Fin 640) (w : Fin 3840) (hw : w.val = min t.val 47 / 8 * 640 + v.val)
    (b : Fin 8) (hb : b.val = min t.val 47 % 8) :
    (iblk m c 0 t : Vec Ideal S2048x640 .f32) (ix2 k v) = m ((c : Thread nD τ).loc main_arg0) (ix3 b k w) := by
  blk_point [iblk, idx t, hw, hb]

/-- The codes a point computes are the whole array's. -/
theorem codes_read (c : Dev nD) (ha : m ((c : Thread nD τ).loc main_arg1) = shapeCast S5x1x768 a Cert.Pre_ymax_is_the_maximum.Facts.shapeCasts_S3840_S5x1x768)
    (t : Fin cfg0.N) (k : Fin 2048) (v : Fin 640) (K : Fin 16384) (w : Fin 3840) (hK : K.val = min t.val 47 % 8 * 2048 + k.val)
    (hw : w.val = min t.val 47 / 8 * 640 + v.val) :
    k0_pay4 (F := Ideal) (iblk m c 1 t) (iblk m c 0 t) (ix2 k v) = codesOf (m ((c : Thread nD τ).loc main_arg0)) a (ix2 K w) := by
  rw [pay4_at, codesOf_at, maxima_read m c ha t v w hw,
    entry_read_at m c t k v w hw ⟨K.val / 2048, by omega⟩ (by show K.val / 2048 = _; omega)]
  have : (⟨K.val % 2048, by omega⟩ : Fin 2048) = k := Fin.ext (by show K.val % 2048 = _; omega)
  rw [this]

theorem codes_point (c : Dev nD)
    (ha : m ((c : Thread nD τ).loc main_arg1) = shapeCast S5x1x768 a Cert.Pre_ymax_is_the_maximum.Facts.shapeCasts_S3840_S5x1x768)
    (t : Fin cfg0.N) (y : S2048x640.Idx) (i : S16384x3840.Idx) (h0 : (i 0).val = min t.val 47 % 8 * 2048 + (y 0).val)
    (h1 : (i 1).val = min t.val 47 / 8 * 640 + (y 1).val) :
    k0_pay4 (F := Ideal) (iblk m c 1 t) (iblk m c 0 t) y = codesOf (m ((c : Thread nD τ).loc main_arg0)) a i := by
  rw [eq_ix2 y, eq_ix2 i]
  exact codes_read m c ha t (y 0) (y 1) (i 0) (i 1) h0 h1

/-- The codes the kernel leaves. -/
theorem final_codes (c : Dev nD)
    (ha : m ((c : Thread nD τ).loc main_arg1) = shapeCast S5x1x768 a Cert.Pre_ymax_is_the_maximum.Facts.shapeCasts_S3840_S5x1x768) :
    (dats m 0 c).arrAt 4 cfg0.N = codesOf (m ((c : Thread nD τ).loc main_arg0)) a := by
  refine (dats m 0 c).arrAt_eq_of_covers 4 _ (by decide +kernel) fun t hf y => ?_
  obtain ⟨i, hi⟩ : ∃ i : S16384x3840.Idx, i = ((cfg0.win 4).blk t).view.emb y := ⟨_, rfl⟩
  have h0 : (i 0).val = min t.val 47 % 8 * 2048 + (y 0).val := by rw [hi]; blk_simp [idx t]
  have h1 : (i 1).val = min t.val 47 / 8 * 640 + (y 1).val := by rw [hi]; blk_simp [idx t]
  rw [← hi]
  show (dats m 0 c).after 4 t y = _
  rw [after0_4, codes_at]
  exact codes_point m c ha t y i h0 h1

theorem scales_point (c : Dev nD)
    (ha : m ((c : Thread nD τ).loc main_arg1) = shapeCast S5x1x768 a Cert.Pre_ymax_is_the_maximum.Facts.shapeCasts_S3840_S5x1x768)
    (t : Fin cfg0.N) (y : S1x640.Idx) (i : S1x3840.Idx) (h1 : (i 1).val = min t.val 47 / 8 * 640 + (y 1).val) :
    k0_pay3 (F := Ideal) (iblk m c 1 t) y = rowOf a i := by
  have hy : y = ix2 (n0 := 1) (n1 := 640) 0 (y 1) :=
    (eq_ix2 y).trans (congrArg (fun b : Fin 1 => ix2 (n0 := 1) (n1 := 640) b (y 1)) (Subsingleton.elim _ _))
  have hi : i = ix2 (n0 := 1) (n1 := 3840) 0 (i 1) :=
    (eq_ix2 i).trans (congrArg (fun b : Fin 1 => ix2 (n0 := 1) (n1 := 3840) b (i 1)) (Subsingleton.elim _ _))
  rw [hy, hi]
  exact (pay3_at _ _).trans ((congrArg sc (maxima_read m c ha t (y 1) (i 1) h1)).trans (rowOf_at _ _).symm)

/-- The scales the kernel leaves. -/
theorem final_scales (c : Dev nD)
    (ha : m ((c : Thread nD τ).loc main_arg1) = shapeCast S5x1x768 a Cert.Pre_ymax_is_the_maximum.Facts.shapeCasts_S3840_S5x1x768) :
    (dats m 0 c).arrAt 5 cfg0.N = rowOf a := by
  refine (dats m 0 c).arrAt_eq_of_covers 5 _ (by decide +kernel) fun t hf y => ?_
  obtain ⟨i, hi⟩ : ∃ i : S1x3840.Idx, i = ((cfg0.win 5).blk t).view.emb y := ⟨_, rfl⟩
  have h1 : (i 1).val = min t.val 47 / 8 * 640 + (y 1).val := by rw [hi]; blk_simp [idx t]
  rw [← hi]
  show (dats m 0 c).after 5 t y = _
  rw [after0_5, scales_at]
  exact scales_point m c ha t y i h1

/-- One product of the reference's sum. -/
def term (y : FVec Ideal Cert.DwOutRefIdeal.S8x2048x3840 .f32) (a : FVec Ideal Cert.DwOutRefIdeal.S3840 .f32)
    (d : FVec Ideal Cert.DwOutRefIdeal.S16384x2560 .fp8e5m2) (s : FVec Ideal Cert.DwOutRefIdeal.S16384x1 .f32)
    (p : Fin 3840) (q : Fin 2560) (K : Fin 16384) : EReal :=
  (show EReal from codesOf y a (ix2 K p)) * ((show EReal from d (ix2 K q)) * (show EReal from s (ix2 K 0)))

theorem dwOf_at (y : FVec Ideal Cert.DwOutRefIdeal.S8x2048x3840 .f32) (a : FVec Ideal Cert.DwOutRefIdeal.S3840 .f32)
    (d : FVec Ideal Cert.DwOutRefIdeal.S16384x2560 .fp8e5m2) (s : FVec Ideal Cert.DwOutRefIdeal.S16384x1 .f32)
    (i : Cert.DwOutRefIdeal.S3840x2560.Idx) :
    dwOf y a d s i = ((∑ K : Fin 16384, term y a d s (i 0) (i 1) K) * sc (a (ix1 (i 0))) : EReal) := by
  refine Eq.trans ?_ ((mul_comm _ _).trans (congrArg (fun z : EReal => (∑ K : Fin 16384, term y a d s (i 0) (i 1) K) * z) (scale_at a (i 0))))
  pointwise [dwOf, Cert.DwOutRefIdeal.Gen.k0_pay2, term, codesOf]

/-- A point's share of the product over its row tile, read off the arguments. -/
theorem share_read (c : Dev nD)
    (ha : m ((c : Thread nD τ).loc main_arg1) = shapeCast S5x1x768 a Cert.Pre_ymax_is_the_maximum.Facts.shapeCasts_S3840_S5x1x768)
    (t : Fin cfg0.N) (ht : 0 < t.val) (j : S640x2560.Idx) (p : Fin 3840) (q : Fin 2560) (hp : p.val = (t.val - 1) / 8 * 640 + (j 0).val)
    (hq : q.val = (j 1).val) (K : Fin 2048 → Fin 16384) (hK : ∀ k : Fin 2048, (K k).val = (t.val - 1) % 8 * 2048 + k.val) :
    share m c t j = ∑ k : Fin 2048, term (m ((c : Thread nD τ).loc main_arg0)) a (m ((c : Thread nD τ).loc main_arg2))
      (m ((c : Thread nD τ).loc main_arg3)) p q (K k) := by
  have hN : t.val < 49 := lt_of_lt_of_eq t.isLt (show cfg0.N = 49 from N_0)
  unfold share term
  refine Finset.sum_congr rfl fun k _ => ?_
  have hmin : min (pred t).val 47 = t.val - 1 := by show min (t.val - 1) 47 = _; omega
  refine congrArg₂ (fun a b : EReal => a * b) (codes_read m c ha (pred t) k (j 0) (K k) p (by rw [hmin]; exact hK k) (by rw [hmin]; exact hp))
    (congrArg₂ (fun a b : EReal => a * b) ?_ ?_)
  · blk_point [iblk, idx t, hq, hK k]
  · blk_point [iblk, idx t, hK k]

theorem dw_point (c : Dev nD)
    (ha : m ((c : Thread nD τ).loc main_arg1) = shapeCast S5x1x768 a Cert.Pre_ymax_is_the_maximum.Facts.shapeCasts_S3840_S5x1x768)
    (v : ℕ) (hv : 8 * v + 8 < cfg0.N) (y : S640x2560.Idx) (i : S3840x2560.Idx) (h0 : (i 0).val = v * 640 + (y 0).val)
    (h1 : (i 1).val = (y 1).val) :
    (outsAt0 m c (8 * v + 8) hv).2.2.1 y = dwOf (m ((c : Thread nD τ).loc main_arg0)) a (m ((c : Thread nD τ).loc main_arg2))
      (m ((c : Thread nD τ).loc main_arg3)) i := by
  have hN : 8 * v + 8 < 49 := lt_of_lt_of_eq hv (show cfg0.N = 49 from N_0)
  rw [last_at m c ⟨8 * v + 8, hv⟩ (by show (8 * v + 8) % 8 = 0; omega) (by show 0 < 8 * v + 8; omega), pay14_at, pay_at, dwOf_at]
  refine congrArg₂ (fun a b : EReal => a * b) ?_ (congrArg sc (maxima_read m c ha (pred ⟨8 * v + 8, hv⟩) (y 0) (i 0)
    (by rw [h0]; show _ = min (8 * v + 8 - 1) 47 / 8 * 640 + _; omega)))
  refine (congrArg₂ (fun a b : EReal => a + b) (sum_at m c v 6 (by omega) (by omega) y)
    (Finset.sum_congr rfl fun k _ => congrArg (fun a : EReal => a * _) (staged_at m c (pred ⟨8 * v + 8, hv⟩) (y 0) k))).trans ?_
  have hlt : ∀ s : Fin 8, 8 * v + 1 + s.val < cfg0.N := fun s => by have := s.isLt; omega
  refine (Fin.sum_univ_castSucc (fun s : Fin 8 => (share m c ⟨8 * v + 1 + s.val, hlt s⟩ y : EReal))).symm.trans ?_
  refine (Finset.sum_congr rfl fun s _ => share_read m c ha ⟨8 * v + 1 + s.val, hlt s⟩ (by show 0 < 8 * v + 1 + s.val; omega) y (i 0) (i 1)
    (by rw [h0]; show _ = (8 * v + 1 + s.val - 1) / 8 * 640 + _; have := s.isLt; omega) h1
    (fun k => ⟨s.val * 2048 + k.val, by have := s.isLt; have := k.isLt; omega⟩)
    (fun k => by show s.val * 2048 + k.val = (8 * v + 1 + s.val - 1) % 8 * 2048 + k.val; have := s.isLt; omega)).trans ?_
  exact Fin.sum_mul_add_congr fun s k hl => rfl

/-- The gradient the kernel leaves. -/
theorem final_dw (c : Dev nD)
    (ha : m ((c : Thread nD τ).loc main_arg1) = shapeCast S5x1x768 a Cert.Pre_ymax_is_the_maximum.Facts.shapeCasts_S3840_S5x1x768) :
    (dats m 0 c).arrAt 6 cfg0.N = dwOf (m ((c : Thread nD τ).loc main_arg0)) a (m ((c : Thread nD τ).loc main_arg2)) (m ((c : Thread nD τ).loc main_arg3)) := by
  refine (dats m 0 c).arrAt_eq_of_covers 6 _ (by decide +kernel) fun t hf y => ?_
  have hN : t.val < 49 := lt_of_lt_of_eq t.isLt (show cfg0.N = 49 from N_0)
  have h8 : t.val % 8 = 0 ∧ 8 ≤ t.val := (flush0_6 t).mp hf
  obtain ⟨i, hi⟩ : ∃ i : S3840x2560.Idx, i = ((cfg0.win 6).blk t).view.emb y := ⟨_, rfl⟩
  have h0 : (i 0).val = (t.val - 1) / 8 * 640 + (y 0).val := by rw [hi]; blk_simp [idx t]
  have h1 : (i 1).val = (y 1).val := by rw [hi]; blk_simp [idx t]
  rw [← hi]
  show (dats m 0 c).after 6 t y = _
  rw [after0_6]
  obtain ⟨v, hv⟩ : ∃ v, t.val = 8 * v + 8 := ⟨t.val / 8 - 1, by omega⟩
  have hv' : 8 * v + 8 < cfg0.N := hv ▸ t.isLt
  have e : t = ⟨8 * v + 8, hv'⟩ := Fin.ext hv
  have e2 : (outsAt0 m c t.val t.isLt).2.2.1 = (outsAt0 m c (8 * v + 8) hv').2.2.1 := by rw [e]
  rw [e2]
  exact dw_point m c ha v hv' y i (by rw [h0, hv]; congr 2; omega) h1

end Cert.DwOutIdeal.Blocks

end
-- ==== Proof.PowerOfTwo.lean ====
/-
  The power of two a row is divided by, from its maximum `a`.  With `r = a * s` (`s` the constant next to 1 / 57344) the
  kernel searches the exponent field of `r` bit by bit, comparing with the number of each field; the reference counts the
  powers of two that do not exceed `r`.  Both find `n` with `2^(n - 127) ≤ r < 2^(n - 126)`, and take `2^(n - 126)`; at
  `a = 0` both take 1.
-/
module

public import Idealize.ShloMosaic.Lib.Pipeline.ValueKit
public import Idealize.ShloMosaic.Lib.Pointwise

@[expose] public section

set_option maxRecDepth 16384

noncomputable section

open Idealize.ShloMosaic

namespace Cert.PowerOfTwo

/-- The number whose exponent field is `c` and whose other bits are clear. -/
def thr (c : ℕ) : EReal := Ideal.ofBits .f32 (BitVec.ofNat 32 c <<< 23)

theorem ieee_bits (n : ℕ) (h : n ≤ 255) : ((BitVec.ofNat 32 n <<< 23).extractLsb' 31 1 = 0#1)
    ∧ ((BitVec.ofNat 32 n <<< 23).extractLsb' 23 8).toNat = n ∧ ((BitVec.ofNat 32 n <<< 23).extractLsb' 0 23).toNat = 0 := by
  refine ⟨?_, ?_, ?_⟩
  · apply BitVec.eq_of_toNat_eq
    simp [BitVec.extractLsb'_toNat, Nat.shiftLeft_eq, Nat.shiftRight_eq_div_pow]
    omega
  · simp [BitVec.extractLsb'_toNat, Nat.shiftLeft_eq, Nat.shiftRight_eq_div_pow]
    omega
  · simp [BitVec.extractLsb'_toNat, Nat.shiftLeft_eq, Nat.shiftRight_eq_div_pow]

theorem thr_ieee (n : ℕ) (h : n ≤ 255) : thr n = if n = 255 then ⊤ else if n = 0 then 0
    else (((1 : ℝ) * (2 ^ 23 + 0 : ℕ) * (2 : ℝ) ^ ((n : ℤ) - (2 ^ (8 - 1) - 1) - 23) : ℝ) : EReal) := by
  have : thr n = Ideal.ieee 8 23 (BitVec.ofNat 32 n <<< 23) := rfl
  rw [this]
  obtain ⟨h1, h2, h3⟩ := ieee_bits n h
  unfold Ideal.ieee
  simp only [Nat.reduceAdd, h1, h2, h3]
  by_cases h255 : n = 255
  · subst h255; rfl
  · rw [if_neg (by omega), if_neg h255]
    by_cases h0 : n = 0
    · subst h0; rw [if_pos rfl, if_pos rfl]; simp
    · rw [if_neg h0, if_neg h0]; rfl

theorem thr_zero : thr 0 = 0 := by rw [thr_ieee 0 (by omega)]; rfl

theorem thr_top : thr 255 = ⊤ := by rw [thr_ieee 255 (by omega)]; rfl

theorem thr_pow (n : ℕ) (h1 : 1 ≤ n) (h2 : n ≤ 254) : thr n = (((2 : ℝ) ^ ((n : ℤ) - 127) : ℝ) : EReal) := by
  rw [thr_ieee n (by omega), if_neg (by omega), if_neg (by omega)]
  refine congrArg _ ?_
  rw [one_mul, show (((2 : ℕ) ^ 23 + 0 : ℕ) : ℝ) = (2 : ℝ) ^ (23 : ℤ) by norm_num, ← zpow_add₀ (by norm_num)]
  exact congrArg (fun z : ℤ => (2 : ℝ) ^ z) (by norm_num)

/-- `r` lies in the binade of field `n`. -/
def At (r : EReal) (n : ℕ) : Prop := n ≤ 252 ∧ ∀ c, c ≤ 255 → (r < thr c ↔ n < c)

theorem at_zero : At 0 0 := by
  refine ⟨by omega, fun c hc => ?_⟩
  rcases Nat.eq_zero_or_pos c with h | h
  · subst h; simp [thr_zero]
  · refine iff_of_true ?_ h
    by_cases h255 : c = 255
    · subst h255; rw [thr_top]; exact EReal.zero_lt_top
    · rw [thr_pow c h (by omega)]; exact EReal.coe_pos.mpr (by positivity)

theorem at_pow (x : ℝ) (n : ℕ) (h1 : 1 ≤ n) (h2 : n ≤ 252) (lo : (2 : ℝ) ^ ((n : ℤ) - 127) ≤ x) (hi : x < (2 : ℝ) ^ ((n : ℤ) - 126)) :
    At (x : EReal) n := by
  have hpos : 0 < x := lt_of_lt_of_le (by positivity) lo
  refine ⟨h2, fun c hc => ?_⟩
  rcases Nat.eq_zero_or_pos c with h | h
  · subst h
    rw [thr_zero]
    exact iff_of_false (not_lt.mpr (EReal.coe_nonneg.mpr hpos.le)) (by omega)
  by_cases h255 : c = 255
  · subst h255; rw [thr_top]; exact iff_of_true (EReal.coe_lt_top x) (by omega)
  rw [thr_pow c h (by omega), EReal.coe_lt_coe_iff]
  constructor
  · intro hx
    by_contra hcn
    have : (2 : ℝ) ^ ((c : ℤ) - 127) ≤ (2 : ℝ) ^ ((n : ℤ) - 127) := zpow_le_zpow_right₀ (by norm_num) (by omega)
    linarith
  · intro hn
    have : (2 : ℝ) ^ ((n : ℤ) - 126) ≤ (2 : ℝ) ^ ((c : ℤ) - 127) := zpow_le_zpow_right₀ (by norm_num) (by omega)
    linarith

/-- A number from `2^-126` on and below `2^126` lies in one of the binades 1 to 252. -/
theorem exists_at (x : ℝ) (lo : (2 : ℝ) ^ (-126 : ℤ) ≤ x) (hi : x < (2 : ℝ) ^ (126 : ℤ)) : ∃ n : ℕ, 1 ≤ n ∧ At (x : EReal) n := by
  have hpos : 0 < x := lt_of_lt_of_le (by positivity) lo
  obtain ⟨k, hk1, hk2⟩ := exists_mem_Ico_zpow hpos (show (1 : ℝ) < 2 by norm_num)
  have a1 : -126 < k + 1 := (zpow_lt_zpow_iff_right₀ (show (1 : ℝ) < 2 by norm_num)).mp (lt_of_le_of_lt lo hk2)
  have a2 : k < 126 := (zpow_lt_zpow_iff_right₀ (show (1 : ℝ) < 2 by norm_num)).mp (lt_of_le_of_lt hk1 hi)
  obtain ⟨n, hn⟩ := Int.eq_ofNat_of_zero_le (show 0 ≤ k + 127 by omega)
  refine ⟨n, by omega, at_pow x n (by omega) (by omega) ?_ ?_⟩
  · rw [show (n : ℤ) - 127 = k by omega]; exact hk1
  · rw [show (n : ℤ) - 126 = k + 1 by omega]; exact hk2

/-! ## The kernel's search -/

/-- One step of the search: the bit `b` is added to the field `f` unless `r` is below the number of the sum. -/
def step (r : EReal) (b f : BitVec 32) : BitVec 32 :=
  Scalar.select (FloatOps.cmpf (F := Ideal) (φ := .f32) .olt r (FloatOps.ofBits (F := Ideal) .f32 (IntOp.shli .vector (IntOp.addi f b) 23#32)))
    f (IntOp.addi f b)

theorem shl_eq (c : ℕ) : (FloatOps.ofBits (F := Ideal) .f32 (IntOp.shli .vector (BitVec.ofNat 32 c) 23#32) : EReal) = thr c := rfl

theorem add_eq (a b : ℕ) : IntOp.addi (BitVec.ofNat 32 a) (BitVec.ofNat 32 b) = BitVec.ofNat 32 (a + b) := by
  show BitVec.ofNat 32 a + BitVec.ofNat 32 b = _
  rw [BitVec.ofNat_add]

theorem lt_one (a b : EReal) : (FloatOps.cmpf (F := Ideal) (φ := .f32) .olt a b = 1) ↔ a < b := by
  by_cases h : a < b <;> simp [FloatOps.cmpf, Ideal.cmp, h]

theorem ge_one (a b : EReal) : (FloatOps.cmpf (F := Ideal) (φ := .f32) .oge a b = 1) ↔ b ≤ a := by
  by_cases h : b ≤ a <;> simp [FloatOps.cmpf, Ideal.cmp, h]

theorem le_one (a b : EReal) : (FloatOps.cmpf (F := Ideal) (φ := .f32) .ole a b = 1) ↔ a ≤ b := by
  by_cases h : a ≤ b <;> simp [FloatOps.cmpf, Ideal.cmp, h]

theorem eq_one (a b : EReal) : (FloatOps.cmpf (F := Ideal) (φ := .f32) .oeq a b = 1) ↔ a = b := by
  by_cases h : a = b <;> simp [FloatOps.cmpf, Ideal.cmp, h]

/-- `f` is a field with `f ≤ n < f + w`. -/
def Within (n w : ℕ) (f : BitVec 32) : Prop := ∃ g : ℕ, f = BitVec.ofNat 32 g ∧ g ≤ n ∧ n < g + w ∧ g + w ≤ 256

theorem narrow (r : EReal) (n : ℕ) (hr : At r n) (b : ℕ) (hb : 1 ≤ b) (f : BitVec 32) (h : Within n (b + b) f) :
    Within n b (step r (BitVec.ofNat 32 b) f) := by
  obtain ⟨g, rfl, h1, h2, h3⟩ := h
  unfold step
  rw [add_eq, shl_eq]
  unfold Scalar.select
  have hc := hr.2 (g + b) (by omega)
  by_cases hlt : n < g + b
  · rw [if_pos ((lt_one _ _).mpr (hc.mpr hlt))]
    exact ⟨g, rfl, h1, hlt, by omega⟩
  · rw [if_neg (fun h => hlt (hc.mp ((lt_one _ _).mp h)))]
    exact ⟨g + b, rfl, by omega, by omega, by omega⟩

/-- The field the kernel finds for `r`. -/
def field (r : EReal) : BitVec 32 :=
  step r 1#32 (step r 2#32 (step r 4#32 (step r 8#32 (step r 16#32 (step r 32#32 (step r 64#32 (step r 128#32 0#32)))))))

theorem field_eq (r : EReal) (n : ℕ) (hr : At r n) : field r = BitVec.ofNat 32 n := by
  have h0 : Within n (128 + 128) 0#32 := ⟨0, rfl, by omega, by have := hr.1; omega, by omega⟩
  have h := narrow r n hr 1 (by omega) _ (narrow r n hr 2 (by omega) _ (narrow r n hr 4 (by omega) _ (narrow r n hr 8 (by omega) _
    (narrow r n hr 16 (by omega) _ (narrow r n hr 32 (by omega) _ (narrow r n hr 64 (by omega) _ (narrow r n hr 128 (by omega) _ h0)))))))
  obtain ⟨g, h1, h2, h3, h4⟩ := h
  exact (show field r = _ from h1).trans (congrArg _ (by omega))

/-- The scale's exponent field, from the field `f` of the quotient. -/
def code (f : BitVec 32) : BitVec 32 := Scalar.select (IntOp.cmpi .eq f 0#32) 127#32 (IntOp.addi f 1#32)

theorem code_zero : code 0#32 = 127#32 := rfl

theorem code_pos (n : ℕ) (h1 : 1 ≤ n) (h2 : n ≤ 252) : code (BitVec.ofNat 32 n) = BitVec.ofNat 32 (n + 1) := by
  unfold code
  rw [show (1#32 : BitVec 32) = BitVec.ofNat 32 1 from rfl, add_eq]
  have : ¬ BitVec.ofNat 32 n = 0#32 := fun h => by
    have := congrArg BitVec.toNat h; simp at this; omega
  unfold Scalar.select IntOp.cmpi
  have hb : (BitVec.ofNat 32 n == 0#32) = false := by simpa using this
  rw [if_neg]
  dsimp only
  rw [hb]
  decide

/-- The scale the kernel takes, and its inverse, as functions of `r`. -/
def scale (r : EReal) : EReal := FloatOps.ofBits (F := Ideal) .f32 (IntOp.shli .vector (code (field r)) 23#32)
def inverse (r : EReal) : EReal := FloatOps.ofBits (F := Ideal) .f32 (IntOp.shli .vector (IntOp.subi 254#32 (code (field r))) 23#32)

theorem pow_coe (k : ℤ) : Ideal.exp2 ((k : ℝ) : EReal) = (((2 : ℝ) ^ k : ℝ) : EReal) := by
  rw [Ideal.exp2_coe]
  exact congrArg _ (Real.rpow_intCast 2 k)

theorem scale_pos (r : EReal) (n : ℕ) (h : 1 ≤ n) (hr : At r n) : scale r = Ideal.exp2 ((((n : ℤ) - 126 : ℤ) : ℝ) : EReal) := by
  unfold scale
  rw [field_eq r n hr, code_pos n h hr.1, shl_eq, thr_pow _ (by omega) (by have := hr.1; omega), pow_coe]
  exact congrArg _ (congrArg (fun z : ℤ => (2 : ℝ) ^ z) (by push_cast; ring))

theorem inverse_pos (r : EReal) (n : ℕ) (h : 1 ≤ n) (hr : At r n) : inverse r = Ideal.exp2 (((126 - (n : ℤ) : ℤ) : ℝ) : EReal) := by
  have h2 := hr.1
  unfold inverse
  rw [field_eq r n hr, code_pos n h h2]
  have : IntOp.subi 254#32 (BitVec.ofNat 32 (n + 1)) = BitVec.ofNat 32 (253 - n) := by
    apply BitVec.eq_of_toNat_eq
    show (254#32 - BitVec.ofNat 32 (n + 1)).toNat = _
    rw [BitVec.toNat_sub]; simp; omega
  rw [this, shl_eq, thr_pow _ (by omega) (by omega), pow_coe]
  exact congrArg _ (congrArg (fun z : ℤ => (2 : ℝ) ^ z) (by omega))

theorem scale_zero : scale 0 = Ideal.exp2 0 := by
  unfold scale
  rw [field_eq 0 0 at_zero, code_zero]
  show thr 127 = _
  rw [thr_pow 127 (by omega) (by omega), show (0 : EReal) = (((0 : ℤ) : ℝ) : EReal) by simp, pow_coe]
  norm_num

theorem inverse_zero : inverse 0 = Ideal.exp2 0 := by
  unfold inverse
  rw [field_eq 0 0 at_zero, code_zero]
  show thr 127 = _
  rw [thr_pow 127 (by omega) (by omega), show (0 : EReal) = (((0 : ℤ) : ℝ) : EReal) by simp, pow_coe]
  norm_num

/-! ## The reference's count -/

/-- The constant a maximum is multiplied by, the largest maximum of the precondition, and 126. -/
def unit : EReal := Ideal.ofBits .f32 0x37924925#32
def largest : EReal := Ideal.ofBits .f32 0x7F7F0000#32
def bias : EReal := Ideal.ofBits .f32 0x42FC0000#32

theorem unit_eq : unit = (((9586981 : ℝ) * (2 : ℝ) ^ (-39 : ℤ) : ℝ) : EReal) := by
  unfold unit
  simp [Ideal.ofBits, Ideal.ieee]

theorem largest_eq : largest = (((16711680 : ℝ) * (2 : ℝ) ^ (104 : ℤ) : ℝ) : EReal) := by
  unfold largest
  simp [Ideal.ofBits, Ideal.ieee]

theorem bias_eq : bias = ((126 : ℝ) : EReal) := by
  unfold bias
  simp [Ideal.ofBits, Ideal.ieee]
  rw [← EReal.coe_mul]
  norm_num

/-- Whether the `i`-th power of two does not exceed `r`, as a number. -/
def hit (r : EReal) (i : BitVec 32) : EReal :=
  Scalar.select (FloatOps.cmpf (F := Ideal) (φ := .f32) .oge r (Ideal.exp2 (((i.toInt : ℝ) : EReal) - bias))) 1 0

theorem hit_eq (r : EReal) (n : ℕ) (hr : At r n) (i : ℕ) (hi : i < 253) : hit r (BitVec.ofNat 32 i) = if i < n then 1 else 0 := by
  have ht : (BitVec.ofNat 32 i).toInt = (i : ℤ) := by
    rw [BitVec.toInt_eq_toNat_of_lt (by simp; omega)]; simp; omega
  have he : Ideal.exp2 ((((BitVec.ofNat 32 i).toInt : ℝ) : EReal) - bias) = thr (i + 1) := by
    rw [thr_pow _ (by omega) (by omega), bias_eq, ht, ← EReal.coe_sub,
      show (((i : ℤ) : ℝ) - 126) = (((i : ℤ) - 126 : ℤ) : ℝ) by push_cast; ring, pow_coe]
    exact congrArg _ (congrArg (fun z : ℤ => (2 : ℝ) ^ z) (by push_cast; ring))
  unfold hit Scalar.select
  rw [he]
  have := hr.2 (i + 1) (by omega)
  by_cases h : i < n
  · rw [if_pos h, if_pos ((ge_one _ _).mpr (not_lt.mp fun hh => by have := this.mp hh; omega))]
  · rw [if_neg h, if_neg fun hh => absurd (this.mpr (by omega)) (not_lt.mpr ((ge_one _ _).mp hh))]

/-- The reference's exponent for a row of maximum `a`. -/
def exponent (a : EReal) : EReal :=
  Scalar.select (FloatOps.cmpf (F := Ideal) (φ := .f32) .oeq a 0) 0 ((∑ i : Fin 253, hit (a * unit) (BitVec.ofNat 32 i.val)) - bias)

theorem count_eq (r : EReal) (n : ℕ) (hr : At r n) : ∑ i : Fin 253, hit r (BitVec.ofNat 32 i.val) = ((n : ℝ) : EReal) := by
  have h2 := hr.1
  rw [Finset.sum_congr rfl fun i _ => hit_eq r n hr i.val i.isLt]
  rw [Fin.sum_univ_eq_sum_range (fun i => if i < n then (1 : EReal) else 0) 253, ← Finset.sum_filter,
    show (Finset.range 253).filter (fun i => i < n) = Finset.range n by ext x; simp; omega]
  simp

/-- A maximum the precondition allows: zero, or one whose quotient is a normal number. -/
def Good (a : EReal) : Prop := (a = 0 ∨ thr 1 ≤ a * unit) ∧ a ≤ largest

theorem exponent_zero : exponent 0 = 0 := by
  unfold exponent Scalar.select
  rw [if_pos ((eq_one _ _).mpr rfl)]

theorem good_cases (a : EReal) (h : Good a) : (a = 0 ∧ a * unit = 0) ∨ (a ≠ 0 ∧ ∃ n : ℕ, 1 ≤ n ∧ At (a * unit) n) := by
  obtain ⟨h1, h2⟩ := h
  by_cases h0 : a = 0
  · exact .inl ⟨h0, by rw [h0, zero_mul]⟩
  · refine .inr ⟨h0, ?_⟩
    have h1 := h1.resolve_left h0
    rw [thr_pow 1 (by omega) (by omega)] at h1
    rw [unit_eq] at h1 ⊢
    rw [largest_eq] at h2
    induction a with
    | bot => rw [EReal.bot_mul_coe_of_pos (by positivity)] at h1; simp at h1
    | top => exact absurd h2 (not_le.mpr (EReal.coe_lt_top _))
    | coe x =>
      rw [← EReal.coe_mul] at h1 ⊢
      have l1 := EReal.coe_le_coe_iff.mp h1
      have l2 := EReal.coe_le_coe_iff.mp h2
      refine exists_at _ (le_trans (le_of_eq ?_) l1) ?_
      · norm_num
      · have : x * ((9586981 : ℝ) * (2 : ℝ) ^ (-39 : ℤ)) ≤ (16711680 * (2 : ℝ) ^ (104 : ℤ)) * ((9586981 : ℝ) * (2 : ℝ) ^ (-39 : ℤ)) :=
          mul_le_mul_of_nonneg_right l2 (by positivity)
        refine lt_of_le_of_lt this ?_
        norm_num

theorem scale_eq (a : EReal) (h : Good a) : scale (a * unit) = Ideal.exp2 (exponent a) := by
  rcases good_cases a h with ⟨h0, h1⟩ | ⟨h0, n, hn, hr⟩
  · rw [h1, h0, scale_zero, exponent_zero]
  · rw [scale_pos _ n hn hr]
    unfold exponent Scalar.select
    rw [if_neg (fun hh => h0 ((eq_one _ _).mp hh)), count_eq _ n hr, bias_eq, ← EReal.coe_sub]
    push_cast; rfl

theorem inverse_eq (a : EReal) (h : Good a) : inverse (a * unit) = Ideal.exp2 (0 - exponent a) := by
  rcases good_cases a h with ⟨h0, h1⟩ | ⟨h0, n, hn, hr⟩
  · rw [h1, h0, inverse_zero, exponent_zero, sub_zero]
  · rw [inverse_pos _ n hn hr]
    unfold exponent Scalar.select
    rw [if_neg (fun hh => h0 ((eq_one _ _).mp hh)), count_eq _ n hr, bias_eq, ← EReal.coe_sub, ← EReal.coe_zero, ← EReal.coe_sub]
    refine congrArg Ideal.exp2 (congrArg _ ?_)
    push_cast; ring

end Cert.PowerOfTwo

end
-- ==== Proof.Dyn.lean ====
/-
  The gradient with respect to the normalised, gated output, `dyn`: both programs divide each row of the incoming gradient by
  a power of two, clip it to the codes, and compute, at row `r` and column `j`,
  `(∑ k, codes[r, k] * w[j, k]) * scale[r] * s`.  The codes and the scales are results as well.
-/
module

public import proofs.«01_k».proof.Defs
public import proofs.«01_k».proof.Proof.PowerOfTwo
public import proofs.«01_k».proof.Proof.Gen.DynIdeal.Value
public import proofs.«01_k».proof.Proof.Gen.DynRefIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.PowerOfTwo

namespace Cert.DynRefIdeal.Whole

open Cert.DynRefIdeal Cert.DynRefIdeal.Gen

/-- The maximum of a row's absolute values. -/
def rowMax (f : Fin 2560 → EReal) : EReal :=
  (Finset.univ : Finset (Fin 2560)).fold max (Ideal.ofBits .f32 0xFF800000#32) fun k => FloatOps.absf (F := Ideal) (φ := .f32) (f k)

/-- The maxima of the rows' absolute values. -/
def top (x : Vec Ideal S16384x2560 .bf16) : FVec Ideal S16384x1 .f32 :=
  shapeCast S16384x1 (multiReduction .maximumf [1] S16384 (absf (k0_pay2 x)) 0xFF800000#32 reduces_S16384x2560_S16384 (.inl rfl) rfl)
    shapeCasts_S16384_S16384x1

/-- The exponents of the rows' scales, from the maxima. -/
def exps (v5 : FVec Ideal S16384x1 .f32) : FVec Ideal S16384x1 .f32 :=
  select (cmpf .oeq v5 (broadcast S16384x1 (Scalar.ofBits .f32 0x00000000#32 : Ideal .f32)))
    (broadcast S16384x1 (Scalar.ofBits .f32 0x00000000#32 : Ideal .f32))
    (subf (shapeCast S16384x1 (multiReduction .add [1] S16384
        (select (cmpf .oge
            (broadcastTo S16384x253 (mulf v5 (broadcast S16384x1 (Scalar.ofBits .f32 0x37924925#32 : Ideal .f32))) broadcasts_S16384x1_S16384x253)
            (broadcastTo S16384x253 (exp2 (subf (sitofp .f32 (iota .tc S1x253 32 [1] iota_S1x253_d1_w32))
              (broadcast S1x253 (Scalar.ofBits .f32 0x42FC0000#32 : Ideal .f32)))) broadcasts_S1x253_S16384x253))
          (broadcast S16384x253 (Scalar.ofBits .f32 0x3F800000#32 : Ideal .f32))
          (broadcast S16384x253 (Scalar.ofBits .f32 0x00000000#32 : Ideal .f32)))
        0x00000000#32 reduces_S16384x253_S16384 (.inl rfl) rfl) shapeCasts_S16384_S16384x1)
      (broadcast S16384x1 (Scalar.ofBits .f32 0x42FC0000#32 : Ideal .f32)))

theorem pay3_eq (x : Vec Ideal S16384x2560 .bf16) : k0_pay3 (F := Ideal) x = exps (top x) := by
  unfold k0_pay3 exps top
  rfl

theorem top_apply (x : Vec Ideal S16384x2560 .bf16) (r : Fin 16384) : top x (ix2 r 0) = rowMax fun k => x (ix2 r k) := by
  pointwise [top, k0_pay2]
  rfl

theorem exps_apply (a : FVec Ideal S16384x1 .f32) (r : Fin 16384) : exps a (ix2 r 0) = exponent (a (ix2 r 0)) := by
  pointwise [exps]
  generalize a (ix2 r 0) = z
  unfold exponent Scalar.select
  by_cases h : z = 0
  · exact (if_pos h).trans (if_pos ((eq_one _ _).mpr h)).symm
  · refine (if_neg h).trans (Eq.trans ?_ (if_neg fun hh => h ((eq_one _ _).mp hh)).symm)
    refine congrArg (fun b : EReal => b - bias) (Finset.sum_congr rfl fun i _ => ?_)
    unfold hit Scalar.select
    by_cases hh : Ideal.exp2 ((((BitVec.ofNat 32 i.val).toInt : ℝ) : EReal) - bias) ≤ z * unit
    · exact (if_pos hh).trans (if_pos ((ge_one _ _).mpr hh)).symm
    · exact (if_neg hh).trans (if_neg fun h' => hh ((ge_one _ _).mp h')).symm

/-- A number clipped to the codes. -/
def clip (v : EReal) : EReal := min (Ideal.ofBits .f32 0x47600000#32) (max (Ideal.ofBits .f32 0xC7600000#32) v)

/-- The codes, from the rows and the exponents. -/
def codesFrom (v : FVec Ideal S16384x2560 .f32) (e : FVec Ideal S16384x1 .f32) : FVec Ideal S16384x2560 .fp8e5m2 :=
  truncf .fp8e5m2 (minimumf (broadcast S16384x2560 (Scalar.ofBits .f32 0x47600000#32 : Ideal .f32))
    (maximumf (broadcast S16384x2560 (Scalar.ofBits .f32 0xC7600000#32 : Ideal .f32))
      (mulf v (broadcastTo S16384x2560 (exp2 (subf (broadcast S16384x1 (Scalar.ofBits .f32 0x00000000#32 : Ideal .f32)) e))
        broadcasts_S16384x1_S16384x2560)))) bitsLt_fp8e5m2_f32

theorem pay4_eq (x : Vec Ideal S16384x2560 .bf16) : k0_pay4 (F := Ideal) x = codesFrom (k0_pay2 x) (k0_pay3 x) := rfl

theorem codesFrom_apply (v : FVec Ideal S16384x2560 .f32) (e : FVec Ideal S16384x1 .f32) (r : Fin 16384) (k : Fin 2560) :
    codesFrom v e (ix2 r k) = clip (v (ix2 r k) * Ideal.exp2 (0 - e (ix2 r 0))) := by
  pointwise [codesFrom]
  rfl

theorem widen_apply (x : Vec Ideal S16384x2560 .bf16) (r : Fin 16384) (k : Fin 2560) : k0_pay2 (F := Ideal) x (ix2 r k) = x (ix2 r k) := by
  pointwise [k0_pay2]

/-- The reference's code, scale and product at an index. -/
theorem codes_apply (x : Vec Ideal S16384x2560 .bf16) (r : Fin 16384) (k : Fin 2560) :
    k0_pay4 (F := Ideal) x (ix2 r k) = clip (x (ix2 r k) * Ideal.exp2 (0 - exponent (rowMax fun k => x (ix2 r k)))) := by
  rw [pay4_eq, codesFrom_apply, widen_apply, pay3_eq, exps_apply, top_apply]

theorem pay5_eq (x : Vec Ideal S16384x2560 .bf16) : k0_pay5 (F := Ideal) x = exp2 (k0_pay3 (F := Ideal) x) := rfl

theorem exp2_apply (e : FVec Ideal S16384x1 .f32) (r : Fin 16384) : exp2 e (ix2 r 0) = Ideal.exp2 (e (ix2 r 0)) := rfl

theorem scale_apply (x : Vec Ideal S16384x2560 .bf16) (r : Fin 16384) :
    k0_pay5 (F := Ideal) x (ix2 r 0) = Ideal.exp2 (exponent (rowMax fun k => x (ix2 r k))) := by
  rw [pay5_eq, exp2_apply, pay3_eq, exps_apply, top_apply]

theorem product_apply (a : FVec Ideal S16384x2560 .fp8e5m2) (b : FVec Ideal S16384x1 .f32) (w : Vec Ideal S3840x2560 .fp8e4m3)
    (s : Elt Ideal .f32) (r : Fin 16384) (j : Fin 3840) :
    k0_pay1 a b w s (ix2 r j) = ((∑ k : Fin 2560, (a (ix2 r k) : EReal) * (w (ix2 j k) : EReal)) * (b (ix2 r 0) : EReal) * (s : EReal) : EReal) := by
  pointwise [k0_pay1]

/-- The incoming gradient as 16384 rows. -/
def rows (g : FVec Ideal S8x2048x2560 .bf16) : Vec Ideal S16384x2560 .bf16 := shapeCast S16384x2560 g Gen.shapeCasts_S8x2048x2560_S16384x2560

/-- The three results of whole arrays: the gradient `g`, the weight codes `w` and the weight scale `s`. -/
def codesOf (g : FVec Ideal S8x2048x2560 .bf16) : FVec Ideal S16384x2560 .fp8e5m2 := k0_pay4 (rows g)
def scaleOf (g : FVec Ideal S8x2048x2560 .bf16) : FVec Ideal S16384x1 .f32 := k0_pay5 (rows g)
def dynOf (g : FVec Ideal S8x2048x2560 .bf16) (w : FVec Ideal S3840x2560 .fp8e4m3) (s : FVec Ideal S_ .f32) : FVec Ideal S16384x3840 .f32 :=
  k0_pay1 (codesOf g) (scaleOf g) w (shapeCast S1x1 s Gen.shapeCasts_S_S1x1 (ix2 0 0))

theorem rows_apply (g : FVec Ideal S8x2048x2560 .bf16) (r : Fin 16384) (k : Fin 2560) :
    rows g (ix2 r k) = g (ix3 ⟨r.val / 2048, by omega⟩ ⟨r.val % 2048, by omega⟩ k) := by
  pointwise [rows]

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

section Outs
variable (c : Dev nD) (a0 : Memref sig .tc .vmem S16384x2560 .bf16) (h0 : a0.IsWhole)
    (a1 : Memref sig .tc .vmem S3840x2560 .fp8e4m3) (h1 : a1.IsWhole) (a2 : Memref sig .tc .smem S1x1 .f32) (h2 : a2.IsWhole)
    (a3 : Memref sig .tc .vmem S16384x2560 .fp8e5m2) (h3 : a3.IsWhole) (a4 : Memref sig .tc .vmem S16384x1 .f32) (h4 : a4.IsWhole)
    (a5 : Memref sig .tc .vmem S16384x3840 .f32) (h5 : a5.IsWhole)
    (x0 : Vec Ideal S16384x2560 .bf16) (x1 : Vec Ideal S3840x2560 .fp8e4m3) (x2 : Vec Ideal S1x1 .f32)

/-- What the body leaves in its result buffers. -/
theorem out3_eq : out0_A_3 c a0 h0 a1 h1 a2 h2 a3 h3 a4 h4 a5 h5 x0 x1 x2 = k0_pay4 x0 := by
  frame_out

theorem out4_eq : out0_A_4 c a0 h0 a1 h1 a2 h2 a3 h3 a4 h4 a5 h5 x0 x1 x2 = k0_pay5 x0 := by
  frame_out

theorem out5_eq : out0_A_5 c a0 h0 a1 h1 a2 h2 a3 h3 a4 h4 a5 h5 x0 x1 x2 = k0_pay1 (k0_pay4 x0) (k0_pay5 x0) x1 (x2 (ix2 0 0)) := by
  frame_out
  congr 1
  exact congrArg x2 (funext fun a => by fin_cases a <;> exact Subsingleton.elim (α := Fin 1) _ _)

end Outs

theorem e0 (c : Dev nD) : (iblk m c 0 t0_0 : Vec Ideal S16384x2560 .bf16) = rows (m ((c : Thread nD τ).loc main_arg0)) := by
  unfold rows
  blk_ext! [iblk, idx t0_0]

theorem e1 (c : Dev nD) : (iblk m c 1 t0_0 : Vec Ideal S3840x2560 .fp8e4m3) = m ((c : Thread nD τ).loc main_arg1) := by
  blk_ext! [iblk, V, idx t0_0]

theorem e2 (c : Dev nD) : (iblk m c 2 t0_0 : Vec Ideal S1x1 .f32)
    = shapeCast S1x1 (m ((c : Thread nD τ).loc main_arg2)) Gen.shapeCasts_S_S1x1 := by
  blk_ext! [iblk, idx t0_0]

/-- The reference's result arrays. -/
theorem final_codes (c : Dev nD) : (dats m 0 c).arrAt 3 cfg0.N = codesOf (m ((c : Thread nD τ).loc main_arg0)) := by
  refine (dats m 0 c).arrAt_eq_of_after_last 3 t0_0 (by decide +kernel) _ fun j => ?_
  blk_simp
  rw [after0_3]
  unfold outsAt0
  rw [out3_eq]
  unfold codesOf
  rw [← e0]

theorem final_scale (c : Dev nD) : (dats m 0 c).arrAt 4 cfg0.N = scaleOf (m ((c : Thread nD τ).loc main_arg0)) := by
  refine (dats m 0 c).arrAt_eq_of_after_last 4 t0_0 (by decide +kernel) _ fun j => ?_
  blk_simp
  rw [after0_4]
  unfold outsAt0
  rw [out4_eq]
  unfold scaleOf
  rw [← e0]

theorem final_dyn (c : Dev nD) : (dats m 0 c).arrAt 5 cfg0.N
    = dynOf (m ((c : Thread nD τ).loc main_arg0)) (m ((c : Thread nD τ).loc main_arg1)) (m ((c : Thread nD τ).loc main_arg2)) := by
  refine (dats m 0 c).arrAt_eq_of_after_last 5 t0_0 (by decide +kernel) _ fun j => ?_
  blk_simp
  rw [after0_5]
  unfold outsAt0
  rw [out5_eq]
  unfold dynOf codesOf scaleOf
  rw [← e0, ← e2]
  exact congrArg (fun w => k0_pay1 (k0_pay4 (iblk m c 0 t0_0)) (k0_pay5 (iblk m c 0 t0_0)) w ((iblk m c 2 t0_0 : Vec Ideal S1x1 .f32) (ix2 0 0)) j) (e1 m c)

end Cert.DynRefIdeal.Whole

namespace Cert.Pre_maxima_normal

open Cert.DynRefIdeal.Whole (rowMax)

variable [Cert.Pre_maxima_normal.Facts]
/-- The maxima, as the precondition states them. -/
def top3 (g : FVec Ideal S8x2048x2560 .bf16) : FVec Ideal S8x2048x1 .f32 :=
  broadcastInDim S8x2048x1 ![0, 1] Facts.bcast_S8x2048_S8x2048x1_0_1
    (Host.reduce FloatOps.maximumf (Host.absf (extf .f32 g Facts.bitsLt_bf16_f32)) (constant S_ .f32 0xFF800000#32)
      Facts.reducesTo_S8x2048x2560_S8x2048_d2 Facts.h_S_)

/-- What the precondition asks of a maximum. -/
def asked (a : FVec Ideal S8x2048x1 .f32) : IVec S8x2048x1 1 :=
  andi (ori (cmpf .oeq a (broadcastInDim S8x2048x1 ![] Facts.bcast_S_S8x2048x1 (constant S_ .f32 0x00000000#32 : FVec Ideal S_ .f32)))
      (cmpf .oge (mulf a (broadcastInDim S8x2048x1 ![] Facts.bcast_S_S8x2048x1 (constant S_ .f32 0x37924925#32 : FVec Ideal S_ .f32)))
        (broadcastInDim S8x2048x1 ![] Facts.bcast_S_S8x2048x1 (constant S_ .f32 0x00800000#32 : FVec Ideal S_ .f32))))
    (cmpf .ole a (broadcastInDim S8x2048x1 ![] Facts.bcast_S_S8x2048x1 (constant S_ .f32 0x7F7F0000#32 : FVec Ideal S_ .f32)))

theorem fn_eq (g w s) : (Cert.Pre_maxima_normal.fn (F := Ideal) g w s).1
    = broadcastInDim S8x2048x2560 ![0, 1, 2] Facts.bcast_S8x2048x1_S8x2048x2560_0_1_2 (asked (top3 g)) := by
  unfold fn asked top3
  rfl

theorem asked_good (a : FVec Ideal S8x2048x1 .f32) (b : Fin 8) (r : Fin 2048) (h : asked a (ix3 b r 0) = 1#1) : Good (a (ix3 b r 0)) := by
  have e : asked a (ix3 b r 0) = IntOp.andi (IntOp.ori (FloatOps.cmpf (F := Ideal) (φ := .f32) .oeq (a (ix3 b r 0)) (Ideal.ofBits .f32 0x00000000#32))
       (FloatOps.cmpf (F := Ideal) (φ := .f32) .oge ((a (ix3 b r 0) : EReal) * Ideal.ofBits .f32 0x37924925#32) (Ideal.ofBits .f32 0x00800000#32)))
       (FloatOps.cmpf (F := Ideal) (φ := .f32) .ole (a (ix3 b r 0)) (Ideal.ofBits .f32 0x7F7F0000#32)) := rfl
  rw [e] at h
  generalize a (ix3 b r 0) = z at h ⊢
  have key : ∀ p q t : BitVec 1, IntOp.andi (IntOp.ori p q) t = 1#1 → (p = 1#1 ∨ q = 1#1) ∧ t = 1#1 := by decide
  obtain ⟨h1, h2⟩ := key _ _ _ h
  refine ⟨h1.imp (fun h => ?_) (fun h => ?_), (le_one _ _).mp h2⟩
  · rw [(eq_one _ _).mp h, Ideal.ofBits_zero_f32]
  · exact (ge_one _ _).mp h

theorem good_of (g w s) (h : ∀ i, (Cert.Pre_maxima_normal.fn (F := Ideal) g w s).1 i = 1#1) (b : Fin 8) (r : Fin 2048) :
    Good (top3 g (ix3 b r 0)) := by
  refine asked_good _ b r ?_
  have h' := h (ix3 b r 0)
  rw [fn_eq] at h'
  generalize asked (top3 g) = z at h' ⊢
  revert h'
  pointwise
  exact id

theorem top3_apply (g : FVec Ideal S8x2048x2560 .bf16) (b : Fin 8) (r : Fin 2048) : top3 g (ix3 b r 0) = rowMax fun k => g (ix3 b r k) := by
  pointwise [top3]
  rfl

end Cert.Pre_maxima_normal

end
-- ==== Proof.DynBlocks.lean ====
/-
  The kernel of `dyn`, tile by tile: its codes, scales and product are the reference's at the rows of the tile.
-/
module

public import proofs.«01_k».proof.Defs
public import proofs.«01_k».proof.Proof.Dyn
public import proofs.«01_k».proof.Proof.Gen.DynIdeal.Value
public import proofs.«01_k».proof.Proof.Gen.DynRefIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.PowerOfTwo

namespace Cert.DynIdeal.Blocks

open Cert.DynIdeal Cert.DynIdeal.Gen
open Cert.DynRefIdeal.Whole (rowMax clip rows codesOf scaleOf dynOf)

/-- The maxima of the rows' absolute values, in a tile. -/
def top (x : Vec Ideal S512x2560 .bf16) : FVec Ideal S512x1 .f32 :=
  shapeCast S512x1 (multiReduction .maximumf [1] S512 (absf (k0_pay3 x)) 0xFF800000#32 reduces_S512x2560_S512 (.inl rfl) rfl)
    shapeCasts_S512_S512x1

theorem pay4_eq (x : Vec Ideal S512x2560 .bf16) :
    k0_pay4 (F := Ideal) x = mulf (top x) (broadcast S512x1 (Scalar.ofBits .f32 0x37924925#32 : Ideal .f32)) := by
  unfold k0_pay4 top
  rfl

theorem top_apply (x : Vec Ideal S512x2560 .bf16) (r : Fin 512) : top x (ix2 r 0) = rowMax fun k => x (ix2 r k) := by
  pointwise [top, k0_pay3]
  rfl

theorem mul_apply (a : FVec Ideal S512x1 .f32) (j : S512x1.Idx) :
    mulf a (broadcast S512x1 (Scalar.ofBits .f32 0x37924925#32 : Ideal .f32)) j = ((a j : EReal) * unit : EReal) := rfl

/-- The kernel's code, scale and product at an index of its tile. -/
theorem quotient_apply (x : Vec Ideal S512x2560 .bf16) (r : Fin 512) :
    k0_pay4 (F := Ideal) x (ix2 r 0) = (rowMax fun k => x (ix2 r k)) * unit := by
  rw [pay4_eq, mul_apply, top_apply]

/-- One step of the search, for all rows of a tile; and its first five steps. -/
def steps (v : FVec Ideal S512x1 .f32) (b : BitVec 32) (f : IVec S512x1 32) : IVec S512x1 32 :=
  select (cmpf .olt v (bitcastToFloat .f32 (shli (addi f (broadcast S512x1 b)) (broadcast S512x1 23#32)))) f (addi f (broadcast S512x1 b))

def five (v : FVec Ideal S512x1 .f32) : IVec S512x1 32 :=
  steps v 8#32 (steps v 16#32 (steps v 32#32 (steps v 64#32 (steps v 128#32 (broadcast S512x1 0#32)))))

theorem pay5_eq (x : Vec Ideal S512x2560 .bf16) : k0_pay5 (F := Ideal) x = five (k0_pay4 (F := Ideal) x) := by
  unfold k0_pay5
  generalize k0_pay4 (F := Ideal) x = v
  rfl

theorem code_apply (v : FVec Ideal S512x1 .f32) (j : S512x1.Idx) : k0_pay6 v (five v) j = code (field (v j)) := rfl

theorem field_apply (x : Vec Ideal S512x2560 .bf16) (j : S512x1.Idx) :
    k0_pay6 (F := Ideal) (k0_pay4 x) (k0_pay5 x) j = code (field (k0_pay4 (F := Ideal) x j)) := by
  rw [pay5_eq, code_apply]

theorem scale_open (v7 : FVec Ideal S512x1 .f32) (v43 : IVec S512x1 32) (j : S512x1.Idx) :
    k0_pay8 v7 v43 j = FloatOps.ofBits (F := Ideal) .f32 (IntOp.shli .vector (k0_pay6 v7 v43 j) 23#32) := rfl

theorem scale_apply (x : Vec Ideal S512x2560 .bf16) (r : Fin 512) :
    k0_pay8 (F := Ideal) (k0_pay4 x) (k0_pay5 x) (ix2 r 0) = scale ((rowMax fun k => x (ix2 r k)) * unit) := by
  rw [scale_open, field_apply, quotient_apply]
  generalize (rowMax fun k => x (ix2 r k)) = z
  rfl

theorem codes_open (v : FVec Ideal S512x2560 .f32) (v7 : FVec Ideal S512x1 .f32) (v43 : IVec S512x1 32) (r : Fin 512) (k : Fin 2560) :
    k0_pay7 v v7 v43 (ix2 r k)
      = clip (v (ix2 r k) * FloatOps.ofBits (F := Ideal) .f32 (IntOp.shli .vector (IntOp.subi 254#32 (k0_pay6 v7 v43 (ix2 r 0))) 23#32)) := by
  pointwise [k0_pay7]
  rfl

theorem widen_apply (x : Vec Ideal S512x2560 .bf16) (r : Fin 512) (k : Fin 2560) : k0_pay3 (F := Ideal) x (ix2 r k) = x (ix2 r k) := by
  pointwise [k0_pay3]

theorem codes_apply (x : Vec Ideal S512x2560 .bf16) (r : Fin 512) (k : Fin 2560) :
    k0_pay7 (F := Ideal) (k0_pay3 x) (k0_pay4 x) (k0_pay5 x) (ix2 r k) = clip (x (ix2 r k) * inverse ((rowMax fun k => x (ix2 r k)) * unit)) := by
  rw [codes_open, field_apply, quotient_apply, widen_apply]
  generalize (rowMax fun k => x (ix2 r k)) = z
  rfl

theorem upper_apply (a : FVec Ideal S512x2560 .fp8e5m2) (b : FVec Ideal S512x1 .f32) (w : Vec Ideal S3840x2560 .fp8e4m3)
    (s : Elt Ideal .f32) (r : Fin 256) (j : Fin 3840) :
    k0_pay1 a b w s (ix2 r j) = ((∑ k : Fin 2560, (a (ix2 ⟨r.val, by omega⟩ k) : EReal) * (w (ix2 j k) : EReal)) * (b (ix2 ⟨r.val, by omega⟩ 0) : EReal) * (s : EReal) : EReal) := by
  pointwise [k0_pay1]

theorem lower_apply (a : FVec Ideal S512x2560 .fp8e5m2) (b : FVec Ideal S512x1 .f32) (w : Vec Ideal S3840x2560 .fp8e4m3)
    (s : Elt Ideal .f32) (r : Fin 256) (j : Fin 3840) :
    k0_pay2 a b w s (ix2 r j) = ((∑ k : Fin 2560, (a (ix2 ⟨256 + r.val, by omega⟩ k) : EReal) * (w (ix2 j k) : EReal)) * (b (ix2 ⟨256 + r.val, by omega⟩ 0) : EReal) * (s : EReal) : EReal) := by
  pointwise [k0_pay2]

variable (m : (ℓ : Loc nD τ sig) → Buf (Elt Ideal) ℓ)

/-- Which block of each array a grid point holds. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

section Outs
variable (c : Dev nD) (i : grid0.Coords) (a0 : Memref sig .tc .vmem S512x2560 .bf16) (h0 : a0.IsWhole)
    (a1 : Memref sig .tc .vmem S3840x2560 .fp8e4m3) (h1 : a1.IsWhole) (a2 : Memref sig .tc .smem S1x1 .f32) (h2 : a2.IsWhole)
    (a3 : Memref sig .tc .vmem S512x2560 .fp8e5m2) (h3 : a3.IsWhole) (a4 : Memref sig .tc .vmem S512x1 .f32) (h4 : a4.IsWhole)
    (a5 : Memref sig .tc .vmem S512x3840 .f32) (h5 : a5.IsWhole)
    (x0 : Vec Ideal S512x2560 .bf16) (x1 : Vec Ideal S3840x2560 .fp8e4m3) (x2 : Vec Ideal S1x1 .f32)

theorem out3_eq : out0_A_3 c i a0 h0 a1 h1 a2 h2 a3 h3 a4 h4 a5 h5 x0 x1 x2 = k0_pay7 (k0_pay3 x0) (k0_pay4 x0) (k0_pay5 x0) := by
  frame_out

theorem out4_eq : out0_A_4 c i a0 h0 a1 h1 a2 h2 a3 h3 a4 h4 a5 h5 x0 x1 x2 = k0_pay8 (k0_pay4 x0) (k0_pay5 x0) := by
  frame_out

end Outs

/-- The row of the whole array that a tile's row is. -/
theorem row_eq (c : Dev nD) (t : Fin cfg0.N) (r : Fin 512) (R : Fin 16384) (h : R.val = t.val * 512 + r.val) (k : Fin 2560) :
    (iblk m c 0 t : Vec Ideal S512x2560 .bf16) (ix2 r k) = rows (m ((c : Thread nD τ).loc main_arg0)) (ix2 R k) := by
  unfold rows
  blk_point [iblk, idx t]

theorem weights_eq (c : Dev nD) (t : Fin cfg0.N) : (iblk m c 1 t : Vec Ideal S3840x2560 .fp8e4m3) = m ((c : Thread nD τ).loc main_arg1) := by
  blk_ext! [iblk, V, idx t]

theorem factor_eq (c : Dev nD) (t : Fin cfg0.N) : (iblk m c 2 t : Vec Ideal S1x1 .f32)
    = shapeCast S1x1 (m ((c : Thread nD τ).loc main_arg2)) Gen.shapeCasts_S_S1x1 := by
  blk_ext! [iblk, idx t]

/-- Every row's maximum is one the precondition allows. -/
def AllGood (g : FVec Ideal S8x2048x2560 .bf16) : Prop := ∀ R : Fin 16384, Good (rowMax fun k => rows g (ix2 R k))

theorem max_eq (c : Dev nD) (t : Fin cfg0.N) (r : Fin 512) (R : Fin 16384) (h : R.val = t.val * 512 + r.val) :
    (rowMax fun k => (iblk m c 0 t : Vec Ideal S512x2560 .bf16) (ix2 r k)) = rowMax fun k => rows (m ((c : Thread nD τ).loc main_arg0)) (ix2 R k) :=
  congrArg rowMax (funext fun k => row_eq m c t r R h k)

theorem code_point (c : Dev nD) (hg : AllGood (m ((c : Thread nD τ).loc main_arg0))) (t : Fin cfg0.N) (r : Fin 512) (R : Fin 16384)
    (h : R.val = t.val * 512 + r.val) (k : Fin 2560) :
    k0_pay7 (F := Ideal) (k0_pay3 (iblk m c 0 t)) (k0_pay4 (iblk m c 0 t)) (k0_pay5 (iblk m c 0 t)) (ix2 r k)
      = codesOf (m ((c : Thread nD τ).loc main_arg0)) (ix2 R k) := by
  unfold codesOf
  rw [codes_apply, Cert.DynRefIdeal.Whole.codes_apply, max_eq m c t r R h, row_eq m c t r R h k, inverse_eq _ (hg R)]

theorem scale_point (c : Dev nD) (hg : AllGood (m ((c : Thread nD τ).loc main_arg0))) (t : Fin cfg0.N) (r : Fin 512) (R : Fin 16384)
    (h : R.val = t.val * 512 + r.val) :
    k0_pay8 (F := Ideal) (k0_pay4 (iblk m c 0 t)) (k0_pay5 (iblk m c 0 t)) (ix2 r 0)
      = scaleOf (m ((c : Thread nD τ).loc main_arg0)) (ix2 R 0) := by
  unfold scaleOf
  rw [scale_apply, Cert.DynRefIdeal.Whole.scale_apply, max_eq m c t r R h, scale_eq _ (hg R)]

end Cert.DynIdeal.Blocks

end
-- ==== Proof.DynFinal.lean ====
/-
  The kernel of `dyn`, tile by tile: its codes, scales and product are the reference's at the rows of the tile.
-/
module

public import proofs.«01_k».proof.Defs
public import proofs.«01_k».proof.Proof.DynBlocks
public import proofs.«01_k».proof.Proof.Gen.DynIdeal.Value
public import proofs.«01_k».proof.Proof.Gen.DynRefIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.PowerOfTwo

namespace Cert.DynIdeal.Blocks

open Cert.DynIdeal Cert.DynIdeal.Gen
open Cert.DynRefIdeal.Whole (rowMax clip rows codesOf scaleOf dynOf)

variable (m : (ℓ : Loc nD τ sig) → Buf (Elt Ideal) ℓ)

/-- A tile's code and scale, at the array's index. -/
theorem code_at (c : Dev nD) (hg : AllGood (m ((c : Thread nD τ).loc main_arg0))) (t : Fin cfg0.N) (y : S512x2560.Idx) (i : S16384x2560.Idx)
    (h0 : (i 0).val = t.val * 512 + (y 0).val) (h1 : (i 1).val = (y 1).val) :
    k0_pay7 (F := Ideal) (k0_pay3 (iblk m c 0 t)) (k0_pay4 (iblk m c 0 t)) (k0_pay5 (iblk m c 0 t)) y
      = codesOf (m ((c : Thread nD τ).loc main_arg0)) i := by
  have e := code_point m c hg t (y 0) (i 0) h0 (y 1)
  have h1' : i 1 = y 1 := Fin.ext h1
  rw [eq_ix2 y, eq_ix2 i]
  exact e.trans (congrArg (fun b : Fin 2560 => codesOf (m ((c : Thread nD τ).loc main_arg0)) (ix2 (i 0) b)) h1'.symm)

theorem scale_at (c : Dev nD) (hg : AllGood (m ((c : Thread nD τ).loc main_arg0))) (t : Fin cfg0.N) (y : S512x1.Idx) (i : S16384x1.Idx)
    (h0 : (i 0).val = t.val * 512 + (y 0).val) :
    k0_pay8 (F := Ideal) (k0_pay4 (iblk m c 0 t)) (k0_pay5 (iblk m c 0 t)) y = scaleOf (m ((c : Thread nD τ).loc main_arg0)) i := by
  have e := scale_point m c hg t (y 0) (i 0) h0
  have y1 : y 1 = (0 : Fin 1) := Subsingleton.elim (α := Fin 1) _ _
  have i1 : i 1 = (0 : Fin 1) := Subsingleton.elim (α := Fin 1) _ _
  rw [eq_ix2 y, eq_ix2 i]
  exact (congrArg (fun b : Fin 1 => k0_pay8 (F := Ideal) (k0_pay4 (iblk m c 0 t)) (k0_pay5 (iblk m c 0 t)) (ix2 (y 0) b)) y1).trans
    (e.trans (congrArg (fun b : Fin 1 => scaleOf (m ((c : Thread nD τ).loc main_arg0)) (ix2 (i 0) b)) i1.symm))

/-- The kernel's codes and scales. -/
theorem final_codes (c : Dev nD) (hg : AllGood (m ((c : Thread nD τ).loc main_arg0))) :
    (dats m 0 c).arrAt 3 cfg0.N = codesOf (m ((c : Thread nD τ).loc main_arg0)) := by
  refine (dats m 0 c).arrAt_eq_of_covers 3 _ (by decide +kernel) fun t hf y => ?_
  obtain ⟨i, hi⟩ : ∃ i : S16384x2560.Idx, i = ((cfg0.win 3).blk t).view.emb y := ⟨_, rfl⟩
  have h0 : (i 0).val = t.val * 512 + (y 0).val := by rw [hi]; blk_simp [idx t]
  have h1 : (i 1).val = (y 1).val := by rw [hi]; blk_simp [idx t]
  rw [← hi]
  show (dats m 0 c).after 3 t y = _
  rw [after0_3]
  unfold outsAt0
  rw [out3_eq]
  exact code_at m c hg t y i h0 h1

theorem final_scale (c : Dev nD) (hg : AllGood (m ((c : Thread nD τ).loc main_arg0))) :
    (dats m 0 c).arrAt 4 cfg0.N = scaleOf (m ((c : Thread nD τ).loc main_arg0)) := by
  refine (dats m 0 c).arrAt_eq_of_covers 4 _ (by decide +kernel) fun t hf y => ?_
  obtain ⟨i, hi⟩ : ∃ i : S16384x1.Idx, i = ((cfg0.win 4).blk t).view.emb y := ⟨_, rfl⟩
  have h0 : (i 0).val = t.val * 512 + (y 0).val := by rw [hi]; blk_simp [idx t]
  rw [← hi]
  show (dats m 0 c).after 4 t y = _
  rw [after0_4]
  unfold outsAt0
  rw [out4_eq]
  exact scale_at m c hg t y i h0

/-- The tile's product, its two halves as one. -/
def whole (a : FVec Ideal S512x2560 .fp8e5m2) (b : FVec Ideal S512x1 .f32) (w : Vec Ideal S3840x2560 .fp8e4m3) (s : Elt Ideal .f32) :
    FVec Ideal S512x3840 .f32 :=
  fun y => ((∑ k : Fin 2560, (a (ix2 (y 0) k) : EReal) * (w (ix2 (y 1) k) : EReal)) * (b (ix2 (y 0) 0) : EReal) * (s : EReal) : EReal)

theorem upper_whole (a : FVec Ideal S512x2560 .fp8e5m2) (b : FVec Ideal S512x1 .f32) (w : Vec Ideal S3840x2560 .fp8e4m3) (s : Elt Ideal .f32)
    (r : Fin 256) (j : Fin 3840) (R : Fin 512) (h : R.val = r.val) : k0_pay1 a b w s (ix2 r j) = whole a b w s (ix2 R j) := by
  rw [upper_apply]
  have e : (⟨r.val, by omega⟩ : Fin 512) = R := Fin.ext h.symm
  rw [e]
  rfl

theorem lower_whole (a : FVec Ideal S512x2560 .fp8e5m2) (b : FVec Ideal S512x1 .f32) (w : Vec Ideal S3840x2560 .fp8e4m3) (s : Elt Ideal .f32)
    (r : Fin 256) (j : Fin 3840) (R : Fin 512) (h : R.val = 256 + r.val) : k0_pay2 a b w s (ix2 r j) = whole a b w s (ix2 R j) := by
  rw [lower_apply]
  have e : (⟨256 + r.val, by omega⟩ : Fin 512) = R := Fin.ext h.symm
  rw [e]
  rfl

theorem out5_apply (c : Dev nD) (i : grid0.Coords) (a0 : Memref sig .tc .vmem S512x2560 .bf16) (h0 : a0.IsWhole)
    (a1 : Memref sig .tc .vmem S3840x2560 .fp8e4m3) (h1 : a1.IsWhole) (a2 : Memref sig .tc .smem S1x1 .f32) (h2 : a2.IsWhole)
    (a3 : Memref sig .tc .vmem S512x2560 .fp8e5m2) (h3 : a3.IsWhole) (a4 : Memref sig .tc .vmem S512x1 .f32) (h4 : a4.IsWhole)
    (a5 : Memref sig .tc .vmem S512x3840 .f32) (h5 : a5.IsWhole)
    (x0 : Vec Ideal S512x2560 .bf16) (x1 : Vec Ideal S3840x2560 .fp8e4m3) (x2 : Vec Ideal S1x1 .f32) (y : S512x3840.Idx) :
    out0_A_5 c i a0 h0 a1 h1 a2 h2 a3 h3 a4 h4 a5 h5 x0 x1 x2 y
      = whole (k0_pay7 (k0_pay3 x0) (k0_pay4 x0) (k0_pay5 x0)) (k0_pay8 (k0_pay4 x0) (k0_pay5 x0)) x1 (x2 (ix2 0 0)) y := by
  frame_out
  generalize k0_pay7 (F := Ideal) (k0_pay3 x0) (k0_pay4 x0) (k0_pay5 x0) = a
  generalize k0_pay8 (F := Ideal) (k0_pay4 x0) (k0_pay5 x0) = b
  have es : ∀ z : S1x1.Idx, x2 z = x2 (ix2 0 0) := fun z => congrArg x2 (funext fun a => by fin_cases a <;> exact Subsingleton.elim (α := Fin 1) _ _)
  have el : ∀ hh, View.ld x2 (Rect.unit ![0, 0] ![1, 1] inb_S1x1_S1x1_0_0) (Shape.Idx.first hh) = x2 (ix2 0 0) := fun hh => es _
  rw [el]
  generalize x2 (ix2 0 0) = s
  canon_tiles x h
  · have e := lower_whole a b x1 s (x 0) (x 1) (y 0) h0
    rw [eq_ix2 x, eq_ix2 y]
    exact e.trans (congrArg (fun q : Fin 3840 => whole a b x1 s (ix2 (y 0) q)) (Fin.ext h1.symm))
  · have e := upper_whole a b x1 s (x 0) (x 1) (y 0) h0
    rw [eq_ix2 x, eq_ix2 y]
    exact e.trans (congrArg (fun q : Fin 3840 => whole a b x1 s (ix2 (y 0) q)) (Fin.ext h1.symm))

theorem out5_eq (c : Dev nD) (i : grid0.Coords) (a0 : Memref sig .tc .vmem S512x2560 .bf16) (h0 : a0.IsWhole)
    (a1 : Memref sig .tc .vmem S3840x2560 .fp8e4m3) (h1 : a1.IsWhole) (a2 : Memref sig .tc .smem S1x1 .f32) (h2 : a2.IsWhole)
    (a3 : Memref sig .tc .vmem S512x2560 .fp8e5m2) (h3 : a3.IsWhole) (a4 : Memref sig .tc .vmem S512x1 .f32) (h4 : a4.IsWhole)
    (a5 : Memref sig .tc .vmem S512x3840 .f32) (h5 : a5.IsWhole)
    (x0 : Vec Ideal S512x2560 .bf16) (x1 : Vec Ideal S3840x2560 .fp8e4m3) (x2 : Vec Ideal S1x1 .f32) :
    out0_A_5 c i a0 h0 a1 h1 a2 h2 a3 h3 a4 h4 a5 h5 x0 x1 x2
      = whole (k0_pay7 (k0_pay3 x0) (k0_pay4 x0) (k0_pay5 x0)) (k0_pay8 (k0_pay4 x0) (k0_pay5 x0)) x1 (x2 (ix2 0 0)) :=
  funext fun y => out5_apply c i a0 h0 a1 h1 a2 h2 a3 h3 a4 h4 a5 h5 x0 x1 x2 y

theorem dyn_point (c : Dev nD) (hg : AllGood (m ((c : Thread nD τ).loc main_arg0))) (t : Fin cfg0.N) (r : Fin 512) (R : Fin 16384)
    (h : R.val = t.val * 512 + r.val) (j : Fin 3840) :
    whole (k0_pay7 (F := Ideal) (k0_pay3 (iblk m c 0 t)) (k0_pay4 (iblk m c 0 t)) (k0_pay5 (iblk m c 0 t)))
        (k0_pay8 (F := Ideal) (k0_pay4 (iblk m c 0 t)) (k0_pay5 (iblk m c 0 t))) (iblk m c 1 t)
        ((show Vec Ideal S1x1 .f32 from iblk m c 2 t) (ix2 0 0)) (ix2 r j)
      = dynOf (m ((c : Thread nD τ).loc main_arg0)) (m ((c : Thread nD τ).loc main_arg1)) (m ((c : Thread nD τ).loc main_arg2)) (ix2 R j) := by
  have e1 := fun k : Fin 2560 => code_point m c hg t r R h k
  have e2 := scale_point m c hg t r R h
  have e3 := weights_eq m c t
  have e4 := congrFun (factor_eq m c t) (ix2 0 0)
  unfold dynOf
  rw [Cert.DynRefIdeal.Whole.product_apply]
  unfold whole
  generalize k0_pay7 (F := Ideal) (k0_pay3 (iblk m c 0 t)) (k0_pay4 (iblk m c 0 t)) (k0_pay5 (iblk m c 0 t)) = a at e1 ⊢
  generalize k0_pay8 (F := Ideal) (k0_pay4 (iblk m c 0 t)) (k0_pay5 (iblk m c 0 t)) = b at e2 ⊢
  generalize codesOf (m ((c : Thread nD τ).loc main_arg0)) = a' at e1 ⊢
  generalize scaleOf (m ((c : Thread nD τ).loc main_arg0)) = b' at e2 ⊢
  refine congrArg₂ (fun a b : EReal => a * b) (congrArg₂ (fun a b : EReal => a * b) (Finset.sum_congr rfl fun k _ => ?_) e2) e4
  exact congrArg₂ (fun a b : EReal => a * b) (e1 k) (congrFun e3 (ix2 j k))

theorem dyn_at (c : Dev nD) (hg : AllGood (m ((c : Thread nD τ).loc main_arg0))) (t : Fin cfg0.N) (y : S512x3840.Idx) (i : S16384x3840.Idx)
    (h0 : (i 0).val = t.val * 512 + (y 0).val) (h1 : (i 1).val = (y 1).val) :
    whole (k0_pay7 (F := Ideal) (k0_pay3 (iblk m c 0 t)) (k0_pay4 (iblk m c 0 t)) (k0_pay5 (iblk m c 0 t)))
        (k0_pay8 (F := Ideal) (k0_pay4 (iblk m c 0 t)) (k0_pay5 (iblk m c 0 t))) (iblk m c 1 t)
        ((show Vec Ideal S1x1 .f32 from iblk m c 2 t) (ix2 0 0)) y
      = dynOf (m ((c : Thread nD τ).loc main_arg0)) (m ((c : Thread nD τ).loc main_arg1)) (m ((c : Thread nD τ).loc main_arg2)) i := by
  have e := dyn_point m c hg t (y 0) (i 0) h0 (y 1)
  have h1' : i 1 = y 1 := Fin.ext h1
  generalize dynOf (m ((c : Thread nD τ).loc main_arg0)) (m ((c : Thread nD τ).loc main_arg1)) (m ((c : Thread nD τ).loc main_arg2)) = z at e ⊢
  generalize whole (k0_pay7 (F := Ideal) (k0_pay3 (iblk m c 0 t)) (k0_pay4 (iblk m c 0 t)) (k0_pay5 (iblk m c 0 t)))
        (k0_pay8 (F := Ideal) (k0_pay4 (iblk m c 0 t)) (k0_pay5 (iblk m c 0 t))) (iblk m c 1 t)
        ((show Vec Ideal S1x1 .f32 from iblk m c 2 t) (ix2 0 0)) = q at e ⊢
  rw [eq_ix2 y, eq_ix2 i]
  exact e.trans (congrArg (fun b : Fin 3840 => z (ix2 (i 0) b)) h1'.symm)

/-- The kernel's product. -/
theorem final_dyn (c : Dev nD) (hg : AllGood (m ((c : Thread nD τ).loc main_arg0))) : (dats m 0 c).arrAt 5 cfg0.N
    = dynOf (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨i, hi⟩ : ∃ i : S16384x3840.Idx, i = ((cfg0.win 5).blk t).view.emb y := ⟨_, rfl⟩
  have h0 : (i 0).val = t.val * 512 + (y 0).val := by rw [hi]; blk_simp [idx t]
  have h1 : (i 1).val = (y 1).val := by rw [hi]; blk_simp [idx t]
  rw [← hi]
  show (dats m 0 c).after 5 t y = _
  rw [after0_5]
  unfold outsAt0
  rw [out5_eq]
  exact dyn_at m c hg t y i h0 h1

/-- The precondition gives that every row's maximum is allowed. -/
theorem all_good [Cert.Pre_maxima_normal.Facts] (g : FVec Ideal S8x2048x2560 .bf16) (w : FVec Ideal S3840x2560 .fp8e4m3) (s : FVec Ideal S_ .f32)
    (h : ∀ i, (Cert.Pre_maxima_normal.fn (F := Ideal) g w s).1 i = 1#1) : AllGood g := by
  intro R
  have e : (rowMax fun k => rows g (ix2 R k)) = rowMax fun k => g (ix3 ⟨R.val / 2048, by omega⟩ ⟨R.val % 2048, by omega⟩ k) :=
    congrArg rowMax (funext fun k => Cert.DynRefIdeal.Whole.rows_apply g R k)
  rw [e]
  have h' := Cert.Pre_maxima_normal.good_of g w s h ⟨R.val / 2048, by omega⟩ ⟨R.val % 2048, by omega⟩
  rw [Cert.Pre_maxima_normal.top3_apply] at h'
  exact h'

end Cert.DynIdeal.Blocks

end
-- ==== Proof.lean ====
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Skeleton
public import proofs.«01_k».proof.Proof.Gen.DwQkvRefIdeal.Launch
public import proofs.«01_k».proof.Proof.Gen.DwQkvRefIdeal.Points
public import proofs.«01_k».proof.Proof.Gen.DwQkvRefIdeal.Frame
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwOutRefIdeal.Value
public import proofs.«01_k».proof.Proof.Gen.Dyn
public import proofs.«01_k».proof.Proof.Gen.Dyn.Skeleton
public import proofs.«01_k».proof.Proof.Gen.Dyn.Launch
public import proofs.«01_k».proof.Proof.Gen.Dyn.Points
public import proofs.«01_k».proof.Proof.Gen.Dyn.Frame
public import proofs.«01_k».proof.Proof.Gen.DynIdeal
public import proofs.«01_k».proof.Proof.Gen.DynIdeal.Skeleton
public import proofs.«01_k».proof.Proof.Gen.DynIdeal.Launch
public import proofs.«01_k».proof.Proof.Gen.DynIdeal.Points
public import proofs.«01_k».proof.Proof.Gen.DynIdeal.Frame
public import proofs.«01_k».proof.Proof.Gen.DynRefIdeal
public import proofs.«01_k».proof.Proof.Gen.DynRefIdeal.Skeleton
public import proofs.«01_k».proof.Proof.Gen.DynRefIdeal.Launch
public import proofs.«01_k».proof.Proof.Gen.DynRefIdeal.Points
public import proofs.«01_k».proof.Proof.Gen.DynRefIdeal.Frame
public import proofs.«01_k».proof.Proof.Gen.DynIdeal.Value
public import proofs.«01_k».proof.Proof.Gen.DynRefIdeal.Value
public import proofs.«01_k».proof.Proof.Gen.DxIdeal.Value
public import proofs.«01_k».proof.Proof.Gen.DxRefIdeal.Value
public import proofs.«01_k».proof.Proof.Gen.DwQkvIdeal.Value
public import proofs.«01_k».proof.Proof.Gen.DwQkvRefIdeal.Value
public import proofs.«01_k».proof.Proof.Dx
public import proofs.«01_k».proof.Proof.DwQkv
public import proofs.«01_k».proof.Proof.DwOutFrame
public import proofs.«01_k».proof.Proof.DwOutIdealFrame
public import proofs.«01_k».proof.Proof.DwOutIdealValue
public import proofs.«01_k».proof.Proof.DwOutBlocks
public import proofs.«01_k».proof.Proof.DwOut
public import proofs.«01_k».proof.Proof.Dyn
public import proofs.«01_k».proof.Proof.DynFinal
public import Idealize.ShloMosaic.Lib.Claim
public import Idealize.ShloMosaic.Adequacy
public import Idealize.ShloMosaic.Init

@[expose] public section

noncomputable section

namespace Cert.Proof

open Idealize.ShloMosaic Idealize.SL.Sem Cert.Dx

/-- The input gradient: the kernel's result array is the reference's. -/
theorem dx : Cert.algebraic_DxIdeal_DxRefIdeal (hDxIdeal := Cert.DxIdeal.Gen.facts) (hDxRefIdeal := Cert.DxRefIdeal.Gen.facts) := by
  pair_intro
  · run_from Cert.DxIdeal.Gen.run_main m g
  · run_from Cert.DxRefIdeal.Gen.run_main m' g'
    exact (Cert.DxRefIdeal.Whole.final m' c).trans
      ((congr (congr (congrArg _ (hagree c).1) (hagree c).2.1) (hagree c).2.2).trans (Cert.DxIdeal.Blocks.final m c).symm)

theorem range_of_bits : ∀ b : BitVec 8,
    IntOp.andi (IntOp.cmpi CmpIPredicate.uge b 1#8) (IntOp.cmpi CmpIPredicate.ule b 254#8) = 1#1 → 1 ≤ b.toNat ∧ b.toNat ≤ 254 := by
  decide +kernel

theorem pre_facts : Cert.Pre_exponents_normal.Facts := ⟨by decide, by decide, by decide, by decide⟩

/-- The precondition, at one exponent code. -/
theorem normal [Cert.Pre_exponents_normal.Facts] {m : (ℓ : Loc Cert.DwQkvIdeal.nD Cert.DwQkvIdeal.τ Cert.DwQkvIdeal.sig) → Buf (Elt Ideal) ℓ}
    (h : Cert.Pre_DwQkvIdeal_exponents_normal m) (c : Dev Cert.DwQkvIdeal.nD) (i : Cert.DwQkvIdeal.S8x64x7680.Idx) :
    1 ≤ (show BitVec 8 from m ((c.tc : Thread _ Cert.DwQkvIdeal.τ).loc Cert.DwQkvIdeal.main_arg3) i).toNat
      ∧ (show BitVec 8 from m ((c.tc : Thread _ Cert.DwQkvIdeal.τ).loc Cert.DwQkvIdeal.main_arg3) i).toNat ≤ 254 := by
  have := congrFun (h c).2.2.2 i
  pointwise [Cert.Pre_exponents_normal.fn] at this
  exact range_of_bits _ this

/-- The gradient of the input projection: the kernel's result array is the reference's. -/
theorem dw_qkv [Cert.Pre_exponents_normal.Facts] : Cert.algebraic_DwQkvIdeal_DwQkvRefIdeal_pre_exponents_normal
    (hDwQkvIdeal := Cert.DwQkvIdeal.Gen.facts) (hDwQkvRefIdeal := Cert.DwQkvRefIdeal.Gen.facts) := by
  pair_intro
  · run_from Cert.DwQkvIdeal.Gen.run_main m g
  · run_from Cert.DwQkvRefIdeal.Gen.run_main m' g'
    exact (Cert.DwQkvRefIdeal.Whole.final m' c).trans
      ((congr (congr (congr (congrArg _ (hagree c).1) (hagree c).2.1) (hagree c).2.2.1) (hagree c).2.2.2).trans
        (Cert.DwQkvIdeal.Blocks.final m c fun i =>
          Cert.DwQkvIdeal.Blocks.scale_eq _ (normal hpre c i).1 (normal hpre c i).2).symm)

theorem max_facts : Cert.Pre_ymax_is_the_maximum.Facts := ⟨by decide, by decide, by decide, by decide, by decide, by decide⟩

/-- Over the reals a comparison for equality that says one says equal. -/
theorem eq_of_oeq (a b : EReal) (h : FloatOps.cmpf (F := Ideal) (φ := .f32) .oeq a b = 1#1) : a = b := by
  by_contra hne
  simp [FloatOps.cmpf, Ideal.cmp, hne] at h

/-- The precondition: the maxima handed over are the columns' maxima, in five blocks. -/
theorem maxima [Cert.Pre_ymax_is_the_maximum.Facts]
    {m : (ℓ : Loc Cert.DwOutIdeal.nD Cert.DwOutIdeal.τ Cert.DwOutIdeal.sig) → Buf (Elt Ideal) ℓ}
    (h : Cert.Pre_DwOutIdeal_ymax_is_the_maximum m) (c : Dev Cert.DwOutIdeal.nD) :
    m ((c.tc : Thread _ Cert.DwOutIdeal.τ).loc Cert.DwOutIdeal.main_arg1)
      = shapeCast Cert.DwOutIdeal.S5x1x768 (Cert.DwOutRefIdeal.Whole.amax (m ((c.tc : Thread _ Cert.DwOutIdeal.τ).loc Cert.DwOutIdeal.main_arg0)))
        Cert.Pre_ymax_is_the_maximum.Facts.shapeCasts_S3840_S5x1x768 := by
  funext i
  exact eq_of_oeq _ _ (congrFun (h c).2.1 i)

/-- The gradient of the output projection, with the codes and the scales: the kernel's result arrays are the reference's. -/
theorem dw_out [Cert.Pre_ymax_is_the_maximum.Facts] : Cert.algebraic_DwOutIdeal_DwOutRefIdeal_pre_ymax_is_the_maximum
    (hDwOutIdeal := Cert.DwOutIdeal.Gen.facts) (hDwOutRefIdeal := Cert.DwOutRefIdeal.Gen.facts) := by
  pair_intro
  · run_from Cert.DwOutIdeal.Gen.run_main m g
  · refine θ_run_mono (Cert.DwOutRefIdeal.Gen.run_main m' g') fun r hr c => ?_
    have hc := hr c
    refine ⟨?_, ?_, ?_, ?_, ?_, ?_, ?_⟩
    · refine (hc.1 5).trans ((Cert.DwOutRefIdeal.Whole.final_codes m' c).trans ?_)
      rw [(hagree c).1]
      exact (Cert.DwOutIdeal.Blocks.final_codes m c (maxima hpre c)).symm
    · refine (hc.1 1).trans ((Cert.DwOutRefIdeal.Whole.final_row m' c).trans ?_)
      rw [(hagree c).1]
      exact (Cert.DwOutIdeal.Blocks.final_scales m c (maxima hpre c)).symm
    · refine (hc.1 6).trans ((Cert.DwOutRefIdeal.Whole.final_dw m' c).trans ?_)
      rw [(hagree c).1, (hagree c).2.2.1, (hagree c).2.2.2]
      exact (Cert.DwOutIdeal.Blocks.final_dw m c (maxima hpre c)).symm
    · exact Cert.DwOutRefIdeal.Value.kept_main_arg0 m' r hr c
    · exact Cert.DwOutRefIdeal.Value.kept_main_arg1 m' r hr c
    · exact Cert.DwOutRefIdeal.Value.kept_main_arg2 m' r hr c
    · exact Cert.DwOutRefIdeal.Value.kept_main_arg3 m' r hr c

theorem normal_facts : Cert.Pre_maxima_normal.Facts := ⟨by decide, by decide, by decide, by decide, by decide, by decide, by decide⟩

/-- The precondition: every row's maximum is zero or has a normal quotient. -/
theorem maxima_good [Cert.Pre_maxima_normal.Facts]
    {m : (ℓ : Loc Cert.DynIdeal.nD Cert.DynIdeal.τ Cert.DynIdeal.sig) → Buf (Elt Ideal) ℓ}
    (h : Cert.Pre_DynIdeal_maxima_normal m) (c : Dev Cert.DynIdeal.nD) :
    Cert.DynIdeal.Blocks.AllGood (m ((c.tc : Thread _ Cert.DynIdeal.τ).loc Cert.DynIdeal.main_arg0)) :=
  Cert.DynIdeal.Blocks.all_good _ _ _ fun i => congrFun (h c).1 i

/-- The product with the output projection, with the codes and the scales: the kernel's result arrays are the reference's. -/
theorem dyn [Cert.Pre_maxima_normal.Facts] : Cert.algebraic_DynIdeal_DynRefIdeal_pre_maxima_normal
    (hDynIdeal := Cert.DynIdeal.Gen.facts) (hDynRefIdeal := Cert.DynRefIdeal.Gen.facts) := by
  pair_intro
  · run_from Cert.DynIdeal.Gen.run_main m g
  · run_from Cert.DynRefIdeal.Gen.run_main m' g'
    · refine (Cert.DynRefIdeal.Whole.final_codes m' c).trans ?_
      rw [(hagree c).1]
      exact (Cert.DynIdeal.Blocks.final_codes m c (maxima_good hpre c)).symm
    · refine (Cert.DynRefIdeal.Whole.final_scale m' c).trans ?_
      rw [(hagree c).1]
      exact (Cert.DynIdeal.Blocks.final_scale m c (maxima_good hpre c)).symm
    · refine (Cert.DynRefIdeal.Whole.final_dyn m' c).trans ?_
      rw [(hagree c).1, (hagree c).2.1, (hagree c).2.2]
      exact (Cert.DynIdeal.Blocks.final_dyn m c (maxima_good hpre c)).symm

theorem claim : Cert.Claim :=
  ⟨Cert.Dx.Gen.facts, Cert.DxIdeal.Gen.facts, Cert.DxRefIdeal.Gen.facts, Cert.DwQkv.Gen.facts, Cert.DwQkvIdeal.Gen.facts,
    Cert.DwQkvRefIdeal.Gen.facts, Cert.DwOut.Gen.facts, Cert.DwOutIdeal.Gen.facts, Cert.DwOutRefIdeal.Gen.facts, Cert.Dyn.Gen.facts, Cert.DynIdeal.Gen.facts,
    Cert.DynRefIdeal.Gen.facts, pre_facts, max_facts, normal_facts,
    fun m ρ _ => Cert.Dx.Gen.frame m ρ, fun m ρ _ => Cert.DxIdeal.Gen.frame m ρ, fun m ρ _ => Cert.DxRefIdeal.Gen.frame m ρ,
    fun m ρ _ => Cert.DwQkv.Gen.frame m ρ, fun m ρ _ => Cert.DwQkvIdeal.Gen.frame m ρ, fun m ρ _ => Cert.DwQkvIdeal.Gen.frame m ρ,
    fun m ρ _ => Cert.DwQkvRefIdeal.Gen.frame m ρ, fun m ρ _ => Cert.DwQkvRefIdeal.Gen.frame m ρ,
    fun m ρ _ => Cert.DwOut.Gen.frame m ρ, fun m ρ _ => Cert.DwOutIdeal.Gen.frame m ρ, fun m ρ _ => Cert.DwOutIdeal.Gen.frame m ρ,
    fun m ρ _ => Cert.DwOutRefIdeal.Gen.frame m ρ, fun m ρ _ => Cert.DwOutRefIdeal.Gen.frame m ρ,
    fun m ρ _ => Cert.Dyn.Gen.frame m ρ, fun m ρ _ => Cert.DynIdeal.Gen.frame m ρ, fun m ρ _ => Cert.DynIdeal.Gen.frame m ρ,
    fun m ρ _ => Cert.DynRefIdeal.Gen.frame m ρ, fun m ρ _ => Cert.DynRefIdeal.Gen.frame m ρ,
    trivial, dx, trivial, @dw_qkv pre_facts, trivial, @dw_out max_facts, trivial, @dyn normal_facts⟩

end Cert.Proof

end
